-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eight_fronts [hPre_eight_fronts : Cert.Pre_eight_fronts.Facts] (m : (ℓ : Loc Cert.KernelIdeal.nD Cert.KernelIdeal.τ Cert.KernelIdeal.sig) → Buf (Elt Ideal) ℓ) : Prop :=
  ∀ c : Dev Cert.KernelIdeal.nD,
    (Cert.Pre_eight_fronts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eight_fronts [hPre_eight_fronts : Cert.Pre_eight_fronts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eight_fronts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_eight_fronts [hKernelIdeal : Cert.KernelIdeal.Facts] [hPre_eight_fronts : Cert.Pre_eight_fronts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eight_fronts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_eight_fronts [hReferenceIdeal : Cert.ReferenceIdeal.Facts] [hPre_eight_fronts : Cert.Pre_eight_fronts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eight_fronts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  IdealRules.sign_bit.Statement Cert.KernelIdeal.S8x128 .f32

def algebraic_KernelIdeal_ReferenceIdeal_pre_eight_fronts [hKernelIdeal : Cert.KernelIdeal.Facts] [hReferenceIdeal : Cert.ReferenceIdeal.Facts] [hPre_eight_fronts : Cert.Pre_eight_fronts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eight_fronts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_eight_fronts : Cert.Pre_eight_fronts.Facts),
    quiescent_Kernel (hKernel := hKernel)
    ∧ quiescent_KernelIdeal (hKernelIdeal := hKernelIdeal)
    ∧ quiescent_KernelIdeal_pre_eight_fronts (hKernelIdeal := hKernelIdeal) (hPre_eight_fronts := hPre_eight_fronts)
    ∧ quiescent_ReferenceIdeal (hReferenceIdeal := hReferenceIdeal)
    ∧ quiescent_ReferenceIdeal_pre_eight_fronts (hReferenceIdeal := hReferenceIdeal) (hPre_eight_fronts := hPre_eight_fronts)
    ∧ preserves_Kernel_KernelIdeal
    ∧ algebraic_KernelIdeal_ReferenceIdeal_pre_eight_fronts (hKernelIdeal := hKernelIdeal) (hReferenceIdeal := hReferenceIdeal) (hPre_eight_fronts := hPre_eight_fronts)
-- ==== Pre_eight_fronts.lean ====
abbrev S128x2x8192 : Shape := ⟨3, ![128, 2, 8192]⟩
abbrev S6x128 : Shape := ⟨2, ![6, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x1x8192 : Shape := ⟨3, ![128, 1, 8192]⟩
abbrev S128x8192 : Shape := ⟨2, ![128, 8192]⟩
abbrev S128x8191 : Shape := ⟨2, ![128, 8191]⟩
abbrev S_ : Shape := ⟨0, ![]⟩

class Facts : Prop where
  slices_S128x2x8192_S128x1x8192_0_0_0 : S128x2x8192.Slices ![0, 0, 0] S128x1x8192
  shapeCasts_S128x1x8192_S128x8192 : S128x1x8192.ShapeCasts S128x8192
  slices_S128x2x8192_S128x1x8192_0_1_0 : S128x2x8192.Slices ![0, 1, 0] S128x1x8192
  slices_S128x8192_S128x8191_0_0 : S128x8192.Slices ![0, 0] S128x8191
  slices_S128x8192_S128x8191_0_1 : S128x8192.Slices ![0, 1] S128x8191
  bcast_S_S128x8191 : S_.BroadcastsInDim S128x8191 (![] : Fin 0 → Fin S128x8191.rank)
  natLt_1_32 : 1 < 32
  reducesTo_S128x8191_S128_d1 : S128x8191.ReducesTo [1] S128
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_v19 : IVec S128 32) : IVec S_ 1 :=
  let main_c_2 : IVec S_ 32 := constantI S_ 32 8#32
  let main_v20 : IVec S128 32 := broadcastInDim S128 ![] bcast_S_S128 main_c_2
  let main_v21 : IVec S128 1 := cmpi .sge main_v19 main_v20
  let main_c_3 : IVec S_ 1 := constantI S_ 1 1#1
  let main_v22 : IVec S_ 1 := (fun x v => Host.reduce IntOp.andi x v reducesTo_S128_S_d0 h_S_) main_v21 main_c_3
  main_v22

def fn {F : FTy → Type} [FloatOps F] (main_arg0 : FVec F S128x2x8192 .f32) (main_arg1 : FVec F S6x128 .f32) (main_arg2 : FVec F S128 .f32) (main_arg3 : FVec F S128 .f32) (main_arg4 : FVec F S128 .f32) (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128x256 .f32) (main_arg20 : FVec F S256 .f32) (main_arg21 : FVec F S256x128 .f32) (main_arg22 : FVec F S128 .f32) (main_arg23 : FVec F S128 .f32) (main_arg24 : FVec F S128 .f32) (main_arg25 : FVec F S128x64 .f32) (main_arg26 : FVec F S64 .f32) (main_arg27 : FVec F S64x2 .f32) (main_arg28 : FVec F S2 .f32) : IVec S_ 1 :=
  let main_v0 : FVec F S128x1x8192 .f32 := (extractStridedSlice S128x1x8192 ![0, 0, 0] · slices_S128x2x8192_S128x1x8192_0_0_0) main_arg0
  let main_v1 : FVec F S128x8192 .f32 := shapeCast S128x8192 main_v0 shapeCasts_S128x1x8192_S128x8192
  let main_v2 : FVec F S128x1x8192 .f32 := (extractStridedSlice S128x1x8192 ![0, 1, 0] · slices_S128x2x8192_S128x1x8192_0_1_0) main_arg0
  let main_v3 : FVec F S128x8192 .f32 := shapeCast S128x8192 main_v2 shapeCasts_S128x1x8192_S128x8192
  let main_v4 : FVec F S128x8191 .f32 := (extractStridedSlice S128x8191 ![0, 0] · slices_S128x8192_S128x8191_0_0) main_v1
  let main_v5 : FVec F S128x8191 .f32 := (extractStridedSlice S128x8191 ![0, 1] · slices_S128x8192_S128x8191_0_1) main_v1
  let main_v6 : FVec F S128x8191 .f32 := subf main_v4 main_v5
  let main_v7 : FVec F S128x8191 .f32 := Host.absf main_v6
  let main_cst : FVec F S_ .f32 := constant S_ .f32 0x358637BD#32
  let main_v8 : FVec F S128x8191 .f32 := broadcastInDim S128x8191 ![] bcast_S_S128x8191 main_cst
  let main_v9 : IVec S128x8191 1 := cmpf .ogt main_v7 main_v8
  let main_v10 : FVec F S128x8191 .f32 := (extractStridedSlice S128x8191 ![0, 0] · slices_S128x8192_S128x8191_0_0) main_v3
  let main_v11 : FVec F S128x8191 .f32 := (extractStridedSlice S128x8191 ![0, 1] · slices_S128x8192_S128x8191_0_1) main_v3
  let main_v12 : FVec F S128x8191 .f32 := addf main_v10 main_v11
  let main_cst_0 : FVec F S_ .f32 := constant S_ .f32 0x40000000#32
  let main_v13 : FVec F S128x8191 .f32 := broadcastInDim S128x8191 ![] bcast_S_S128x8191 main_cst_0
  let main_v14 : FVec F S128x8191 .f32 := Host.divf main_v12 main_v13
  let main_cst_1 : FVec F S_ .f32 := constant S_ .f32 0x7F800000#32
  let main_v15 : FVec F S128x8191 .f32 := broadcastInDim S128x8191 ![] bcast_S_S128x8191 main_cst_1
  let main_v16 : IVec S128x8191 1 := cmpf .olt main_v14 main_v15
  let main_v17 : IVec S128x8191 1 := andi main_v9 main_v16
  let main_v18 : IVec S128x8191 32 := (extui 32 · natLt_1_32) main_v17
  let main_c : IVec S_ 32 := constantI S_ 32 0#32
  let main_v19 : IVec S128 32 := (fun x v => Host.reduce IntOp.addi x v reducesTo_S128x8191_S128_d1 h_S_) main_v18 main_c
  fn_part1 (F := F) main_v19
-- ==== Kernel.lean ====
abbrev S128x2x8192 : Shape := ⟨3, ![128, 2, 8192]⟩
abbrev S6x128 : Shape := ⟨2, ![6, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x1x8192 : Shape := ⟨3, ![128, 1, 8192]⟩
abbrev S128x8192 : Shape := ⟨2, ![128, 8192]⟩
abbrev S128x8 : Shape := ⟨2, ![128, 8]⟩
abbrev S16x8192 : Shape := ⟨2, ![16, 8192]⟩
abbrev S16x8 : Shape := ⟨2, ![16, 8]⟩
abbrev S16x8191 : Shape := ⟨2, ![16, 8191]⟩
abbrev S16x1 : Shape := ⟨2, ![16, 1]⟩
abbrev S16 : Shape := ⟨1, ![16]⟩
abbrev S128x1 : Shape := ⟨2, ![128, 1]⟩
abbrev S8x128 : Shape := ⟨2, ![8, 128]⟩
abbrev S_ : Shape := ⟨0, ![]⟩
abbrev S128x128 : Shape := ⟨2, ![128, 128]⟩
abbrev S1x128 : Shape := ⟨2, ![1, 128]⟩
abbrev S1x256 : Shape := ⟨2, ![1, 256]⟩
abbrev S1024x128 : Shape := ⟨2, ![1024, 128]⟩
abbrev S8x128x1 : Shape := ⟨3, ![8, 128, 1]⟩
abbrev S1x1x128 : Shape := ⟨3, ![1, 1, 128]⟩
abbrev S8x128x128 : Shape := ⟨3, ![8, 128, 128]⟩
abbrev S1024 : Shape := ⟨1, ![1024]⟩
abbrev S1024x1 : Shape := ⟨2, ![1024, 1]⟩
abbrev S1024x256 : Shape := ⟨2, ![1024, 256]⟩
abbrev S1024x2 : Shape := ⟨2, ![1024, 2]⟩
abbrev S8x128x2 : Shape := ⟨3, ![8, 128, 2]⟩
abbrev S128x2x8 : Shape := ⟨3, ![128, 2, 8]⟩
abbrev S128x1x8 : Shape := ⟨3, ![128, 1, 8]⟩
abbrev S128x6x8 : Shape := ⟨3, ![128, 6, 8]⟩

abbrev nBuf : Space → Nat
  | .hbm => 82
  | .vmem => 45
  | .smem => 0
  | _ => 0

abbrev bufTy : (tb : Table) → Fin (tcTables nBuf tb) → BufTy
  | .hbm, ⟨0, _⟩ => ⟨S128x2x8192, .f32⟩
  | .hbm, ⟨1, _⟩ => ⟨S6x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x256, .f32⟩
  | .hbm, ⟨20, _⟩ => ⟨S256, .f32⟩
  | .hbm, ⟨21, _⟩ => ⟨S256x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128x64, .f32⟩
  | .hbm, ⟨26, _⟩ => ⟨S64, .f32⟩
  | .hbm, ⟨27, _⟩ => ⟨S64x2, .f32⟩
  | .hbm, ⟨28, _⟩ => ⟨S2, .f32⟩
  | .hbm, ⟨29, _⟩ => ⟨S128x1x8192, .f32⟩
  | .hbm, ⟨30, _⟩ => ⟨S128x8192, .f32⟩
  | .hbm, ⟨31, _⟩ => ⟨S128x1x8192, .f32⟩
  | .hbm, ⟨32, _⟩ => ⟨S128x8192, .f32⟩
  | .hbm, ⟨33, _⟩ => ⟨S128x8, .f32⟩
  | .hbm, ⟨34, _⟩ => ⟨S128x8, .f32⟩
  | .hbm, ⟨35, _⟩ => ⟨S128x8, .f32⟩
  | .hbm, ⟨36, _⟩ => ⟨S128x8, .f32⟩
  | .hbm, ⟨37, _⟩ => ⟨S128x8, .i32⟩
  | .hbm, ⟨38, _⟩ => ⟨S128x1, .i32⟩
  | .hbm, ⟨39, _⟩ => ⟨S128, .i32⟩
  | .hbm, ⟨40, _⟩ => ⟨S8x128, .f32⟩
  | .hbm, ⟨41, _⟩ => ⟨S8x128, .f32⟩
  | .hbm, ⟨42, _⟩ => ⟨S_, .i32⟩
  | .hbm, ⟨43, _⟩ => ⟨S_, .f32⟩
  | .hbm, ⟨44, _⟩ => ⟨S128x128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S_, .i32⟩
  | .hbm, ⟨49, _⟩ => ⟨S_, .f32⟩
  | .hbm, ⟨50, _⟩ => ⟨S128x128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x256, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x256, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x256, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1024x128, .f32⟩
  | .hbm, ⟨74, _⟩ => ⟨S1024x2, .f32⟩
  | .hbm, ⟨75, _⟩ => ⟨S8x128x2, .f32⟩
  | .hbm, ⟨76, _⟩ => ⟨S128x2x8, .f32⟩
  | .hbm, ⟨77, _⟩ => ⟨S128x1x8, .f32⟩
  | .hbm, ⟨78, _⟩ => ⟨S128x1x8, .f32⟩
  | .hbm, ⟨79, _⟩ => ⟨S128x1x8, .f32⟩
  | .hbm, ⟨80, _⟩ => ⟨S128x1x8, .f32⟩
  | .hbm, ⟨81, _⟩ => ⟨S128x6x8, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S16x8, .f32⟩
  | .local _ .vmem, ⟨5, _⟩ => ⟨S16x8, .f32⟩
  | .local _ .vmem, ⟨6, _⟩ => ⟨S16x8, .f32⟩
  | .local _ .vmem, ⟨7, _⟩ => ⟨S16x8, .f32⟩
  | .local _ .vmem, ⟨8, _⟩ => ⟨S16x8, .f32⟩
  | .local _ .vmem, ⟨9, _⟩ => ⟨S16x8, .f32⟩
  | .local _ .vmem, ⟨10, _⟩ => ⟨S16x8, .f32⟩
  | .local _ .vmem, ⟨11, _⟩ => ⟨S16x8, .f32⟩
  | .local _ .vmem, ⟨12, _⟩ => ⟨S16x8, .i32⟩
  | .local _ .vmem, ⟨13, _⟩ => ⟨S16x8, .i32⟩
  | .local _ .vmem, ⟨14, _⟩ => ⟨S8x128, .f32⟩
  | .local _ .vmem, ⟨15, _⟩ => ⟨S8x128, .f32⟩
  | .local _ .vmem, ⟨16, _⟩ => ⟨S6x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x256, .f32⟩
  | .local _ .vmem, ⟨29, _⟩ => ⟨S1x256, .f32⟩
  | .local _ .vmem, ⟨30, _⟩ => ⟨S256x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1024x128, .f32⟩
  | _, _ => ⟨S128x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4_0 : Ref sig .tc := ⟨.hbm, 33, rfl⟩
abbrev main_v4_1 : Ref sig .tc := ⟨.hbm, 34, rfl⟩
abbrev main_v4_2 : Ref sig .tc := ⟨.hbm, 35, rfl⟩
abbrev main_v4_3 : Ref sig .tc := ⟨.hbm, 36, rfl⟩
abbrev main_v4_4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_c : Ref sig .tc := ⟨.hbm, 42, rfl⟩
abbrev main_call0_v0 : Ref sig .tc := ⟨.hbm, 43, rfl⟩
abbrev main_v9 : Ref sig .tc := ⟨.hbm, 44, rfl⟩
abbrev main_c_0 : Ref sig .tc := ⟨.hbm, 45, rfl⟩
abbrev main_call1_v0 : Ref sig .tc := ⟨.hbm, 46, rfl⟩
abbrev main_v10 : Ref sig .tc := ⟨.hbm, 47, rfl⟩
abbrev main_c_1 : Ref sig .tc := ⟨.hbm, 48, rfl⟩
abbrev main_call2_v0 : Ref sig .tc := ⟨.hbm, 49, rfl⟩
abbrev main_v11 : Ref sig .tc := ⟨.hbm, 50, rfl⟩
abbrev main_c_2 : Ref sig .tc := ⟨.hbm, 51, rfl⟩
abbrev main_call3_v0 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc1_stg17_0 : Ref sig .tc := ⟨.vmem, 31, rfl⟩
abbrev cc1_stg18_0 : Ref sig .tc := ⟨.vmem, 32, rfl⟩
abbrev cc1_stg19_0 : Ref sig .tc := ⟨.vmem, 33, rfl⟩
abbrev cc1_stg20_0 : Ref sig .tc := ⟨.vmem, 34, rfl⟩
abbrev cc1_stg21_0 : Ref sig .tc := ⟨.vmem, 35, rfl⟩
abbrev cc1_stg22_0 : Ref sig .tc := ⟨.vmem, 36, rfl⟩
abbrev cc1_stg23_0 : Ref sig .tc := ⟨.vmem, 37, rfl⟩
abbrev cc1_stg24_0 : Ref sig .tc := ⟨.vmem, 38, rfl⟩
abbrev cc1_stg25_0 : Ref sig .tc := ⟨.vmem, 39, rfl⟩
abbrev cc1_stg26_0 : Ref sig .tc := ⟨.vmem, 40, rfl⟩
abbrev cc1_stg27_0 : Ref sig .tc := ⟨.vmem, 41, rfl⟩
abbrev cc1_stg28_0 : Ref sig .tc := ⟨.vmem, 42, rfl⟩
abbrev cc1_stg29_0 : Ref sig .tc := ⟨.vmem, 43, rfl⟩
abbrev cc1_stg30_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30
abbrev cc1_sem17_0 : DmaSem sig := 31
abbrev cc1_sem18_0 : DmaSem sig := 32
abbrev cc1_sem19_0 : DmaSem sig := 33
abbrev cc1_sem20_0 : DmaSem sig := 34
abbrev cc1_sem21_0 : DmaSem sig := 35
abbrev cc1_sem22_0 : DmaSem sig := 36
abbrev cc1_sem23_0 : DmaSem sig := 37
abbrev cc1_sem24_0 : DmaSem sig := 38
abbrev cc1_sem25_0 : DmaSem sig := 39
abbrev cc1_sem26_0 : DmaSem sig := 40
abbrev cc1_sem27_0 : DmaSem sig := 41
abbrev cc1_sem28_0 : DmaSem sig := 42
abbrev cc1_sem29_0 : DmaSem sig := 43
abbrev cc1_sem30_0 : DmaSem sig := 44

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S128x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S256x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S128x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))

abbrev stage1_22 : Fin 1 → Memref sig .tc .vmem S256x128 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))

abbrev stage1_23 : Fin 1 → Memref sig .tc .vmem S1x128 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))

abbrev stage1_24 : Fin 1 → Memref sig .tc .vmem S1x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))

abbrev stage1_25 : Fin 1 → Memref sig .tc .vmem S1x128 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))

abbrev stage1_26 : Fin 1 → Memref sig .tc .vmem S128x128 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))

abbrev stage1_27 : Fin 1 → Memref sig .tc .vmem S1x128 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))

abbrev stage1_28 : Fin 1 → Memref sig .tc .vmem S128x128 .f32 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))

abbrev stage1_29 : Fin 1 → Memref sig .tc .vmem S1x128 .f32 := fun | 0 => Memref.whole cc1_stg29_0 | ⟨_ + 1, h⟩ => absurd h (Nat.not_lt.2 (Nat.le_add_left _ _))
abbrev sem1_29 : Fin 1 → DmaSem sig := fun | 0 => cc1_sem29_0 | ⟨_ + 1, h⟩ => absurd h (Nat.not_lt.2 (Nat.le_add_left _ _))

abbrev stage1_30 : Fin 1 → Memref sig .tc .vmem S1024x128 .f32 := fun | 0 => Memref.whole cc1_stg30_0 | ⟨_ + 1, h⟩ => absurd h (Nat.not_lt.2 (Nat.le_add_left _ _))
abbrev sem1_30 : Fin 1 → DmaSem sig := fun | 0 => cc1_sem30_0 | ⟨_ + 1, h⟩ => absurd h (Nat.not_lt.2 (Nat.le_add_left _ _))
-- ==== KernelIdeal.lean ====
variable {F : FTy → Type} [FloatOps F]
-- ==== ReferenceIdeal.lean ====
abbrev S128x2x8192 : Shape := ⟨3, ![128, 2, 8192]⟩
abbrev S6x128 : Shape := ⟨2, ![6, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x1x8192 : Shape := ⟨3, ![128, 1, 8192]⟩
abbrev S128x8192 : Shape := ⟨2, ![128, 8192]⟩
abbrev S128x8191 : Shape := ⟨2, ![128, 8191]⟩
abbrev S_ : Shape := ⟨0, ![]⟩
abbrev S128x8 : Shape := ⟨2, ![128, 8]⟩
abbrev S128x8x1 : Shape := ⟨3, ![128, 8, 1]⟩
abbrev S1 : Shape := ⟨1, ![1]⟩
abbrev S1x1x1 : Shape := ⟨3, ![1, 1, 1]⟩
abbrev S128x8x6 : Shape := ⟨3, ![128, 8, 6]⟩
abbrev S128x8x128 : Shape := ⟨3, ![128, 8, 128]⟩
abbrev S1x1x128 : Shape := ⟨3, ![1, 1, 128]⟩
abbrev S128x8x256 : Shape := ⟨3, ![128, 8, 256]⟩
abbrev S1x1x256 : Shape := ⟨3, ![1, 1, 256]⟩
abbrev S128x8x64 : Shape := ⟨3, ![128, 8, 64]⟩
abbrev S1x1x64 : Shape := ⟨3, ![1, 1, 64]⟩
abbrev S128x8x2 : Shape := ⟨3, ![128, 8, 2]⟩
abbrev S1x1x2 : Shape := ⟨3, ![1, 1, 2]⟩
abbrev S128x2x8 : Shape := ⟨3, ![128, 2, 8]⟩
abbrev S128x1x8 : Shape := ⟨3, ![128, 1, 8]⟩
abbrev S128x6x8 : Shape := ⟨3, ![128, 6, 8]⟩

abbrev nBuf : Space → Nat
  | .hbm => 393
  | .vmem => 0
  | .smem => 0
  | _ => 0

abbrev hbmTy0_0 (i : Nat) : BufTy := match i % 128 with
  | 0 => ⟨S128x2x8192, .f32⟩
  | 1 => ⟨S6x128, .f32⟩
  | 2 => ⟨S128, .f32⟩
  | 3 => ⟨S128, .f32⟩
  | 4 => ⟨S128, .f32⟩
  | 5 => ⟨S128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128, .f32⟩
  | 18 => ⟨S128, .f32⟩
  | 19 => ⟨S128x256, .f32⟩
  | 20 => ⟨S256, .f32⟩
  | 21 => ⟨S256x128, .f32⟩
  | 22 => ⟨S128, .f32⟩
  | 23 => ⟨S128, .f32⟩
  | 24 => ⟨S128, .f32⟩
  | 25 => ⟨S128x64, .f32⟩
  | 26 => ⟨S64, .f32⟩
  | 27 => ⟨S64x2, .f32⟩
  | 28 => ⟨S2, .f32⟩
  | 29 => ⟨S128x1x8192, .f32⟩
  | 30 => ⟨S128x8192, .f32⟩
  | 31 => ⟨S128x1x8192, .f32⟩
  | 32 => ⟨S128x8192, .f32⟩
  | 33 => ⟨S128x8191, .f32⟩
  | 34 => ⟨S128x8191, .f32⟩
  | 35 => ⟨S128x8191, .f32⟩
  | 36 => ⟨S128x8191, .f32⟩
  | 37 => ⟨S_, .f32⟩
  | 38 => ⟨S128x8191, .f32⟩
  | 39 => ⟨S128x8191, .i1⟩
  | 40 => ⟨S128x8191, .f32⟩
  | 41 => ⟨S128x8191, .f32⟩
  | 42 => ⟨S128x8191, .f32⟩
  | 43 => ⟨S_, .f32⟩
  | 44 => ⟨S128x8191, .f32⟩
  | 45 => ⟨S128x8191, .f32⟩
  | 46 => ⟨S128x8191, .i32⟩
  | 47 => ⟨S_, .i32⟩
  | 48 => ⟨S128, .i32⟩
  | 49 => ⟨S_, .f32⟩
  | 50 => ⟨S128x8191, .f32⟩
  | 51 => ⟨S128x8191, .f32⟩
  | 52 => ⟨S128x8191, .f32⟩
  | 53 => ⟨S128x8, .f32⟩
  | 54 => ⟨S128x8, .i32⟩
  | 55 => ⟨S_, .i32⟩
  | 56 => ⟨S128x8, .i32⟩
  | 57 => ⟨S128x8, .i1⟩
  | 58 => ⟨S_, .i32⟩
  | 59 => ⟨S128x8, .i32⟩
  | 60 => ⟨S128x8, .i32⟩
  | 61 => ⟨S128x8, .i32⟩
  | 62 => ⟨S128x8x1, .i32⟩
  | 63 => ⟨S1, .i32⟩
  | 64 => ⟨S_, .i32⟩
  | 65 => ⟨S128x8x1, .i32⟩
  | 66 => ⟨S128x8x1, .i1⟩
  | 67 => ⟨S1x1x1, .i32⟩
  | 68 => ⟨S128x8x1, .i32⟩
  | 69 => ⟨S128x8x1, .i1⟩
  | 70 => ⟨S128x8x1, .i1⟩
  | 71 => ⟨S_, .i1⟩
  | 72 => ⟨S128x8, .i1⟩
  | 73 => ⟨S128x8, .f32⟩
  | 74 => ⟨S_, .f32⟩
  | 75 => ⟨S128x8, .f32⟩
  | 76 => ⟨S128x8, .f32⟩
  | 77 => ⟨S_, .i32⟩
  | 78 => ⟨S128x8, .i32⟩
  | 79 => ⟨S128x8, .i1⟩
  | 80 => ⟨S_, .i32⟩
  | 81 => ⟨S128x8, .i32⟩
  | 82 => ⟨S128x8, .i32⟩
  | 83 => ⟨S128x8, .i32⟩
  | 84 => ⟨S128x8x1, .i32⟩
  | 85 => ⟨S1, .i32⟩
  | 86 => ⟨S_, .i32⟩
  | 87 => ⟨S128x8x1, .i32⟩
  | 88 => ⟨S128x8x1, .i1⟩
  | 89 => ⟨S1x1x1, .i32⟩
  | 90 => ⟨S128x8x1, .i32⟩
  | 91 => ⟨S128x8x1, .i1⟩
  | 92 => ⟨S128x8x1, .i1⟩
  | 93 => ⟨S_, .i1⟩
  | 94 => ⟨S128x8, .i1⟩
  | 95 => ⟨S128x8, .f32⟩
  | 96 => ⟨S_, .f32⟩
  | 97 => ⟨S128x8, .f32⟩
  | 98 => ⟨S128x8, .f32⟩
  | 99 => ⟨S_, .i32⟩
  | 100 => ⟨S128x8, .i32⟩
  | 101 => ⟨S128x8, .i1⟩
  | 102 => ⟨S_, .i32⟩
  | 103 => ⟨S128x8, .i32⟩
  | 104 => ⟨S128x8, .i32⟩
  | 105 => ⟨S128x8, .i32⟩
  | 106 => ⟨S128x8x1, .i32⟩
  | 107 => ⟨S1, .i32⟩
  | 108 => ⟨S_, .i32⟩
  | 109 => ⟨S128x8x1, .i32⟩
  | 110 => ⟨S128x8x1, .i1⟩
  | 111 => ⟨S1x1x1, .i32⟩
  | 112 => ⟨S128x8x1, .i32⟩
  | 113 => ⟨S128x8x1, .i1⟩
  | 114 => ⟨S128x8x1, .i1⟩
  | 115 => ⟨S_, .i1⟩
  | 116 => ⟨S128x8, .i1⟩
  | 117 => ⟨S128x8, .f32⟩
  | 118 => ⟨S_, .f32⟩
  | 119 => ⟨S128x8, .f32⟩
  | 120 => ⟨S128x8, .f32⟩
  | 121 => ⟨S_, .i32⟩
  | 122 => ⟨S128x8, .i32⟩
  | 123 => ⟨S128x8, .i1⟩
  | 124 => ⟨S_, .i32⟩
  | 125 => ⟨S128x8, .i32⟩
  | 126 => ⟨S128x8, .i32⟩
  | 127 => ⟨S128x8, .i32⟩
  | _ => ⟨S128x2x8192, .f32⟩

abbrev hbmTy0_1 (i : Nat) : BufTy := match i % 128 with
  | 0 => ⟨S128x8x1, .i32⟩
  | 1 => ⟨S1, .i32⟩
  | 2 => ⟨S_, .i32⟩
  | 3 => ⟨S128x8x1, .i32⟩
  | 4 => ⟨S128x8x1, .i1⟩
  | 5 => ⟨S1x1x1, .i32⟩
  | 6 => ⟨S128x8x1, .i32⟩
  | 7 => ⟨S128x8x1, .i1⟩
  | 8 => ⟨S128x8x1, .i1⟩
  | 9 => ⟨S_, .i1⟩
  | 10 => ⟨S128x8, .i1⟩
  | 11 => ⟨S128x8, .i1⟩
  | 12 => ⟨S_, .i1⟩
  | 13 => ⟨S128x8, .i1⟩
  | 14 => ⟨S128x8, .i1⟩
  | 15 => ⟨S128x8, .f32⟩
  | 16 => ⟨S128x8, .f32⟩
  | 17 => ⟨S128x8, .f32⟩
  | 18 => ⟨S_, .f32⟩
  | 19 => ⟨S128x8, .f32⟩
  | 20 => ⟨S128x8, .f32⟩
  | 21 => ⟨S128x8, .f32⟩
  | 22 => ⟨S128x8x1, .f32⟩
  | 23 => ⟨S128x8x1, .f32⟩
  | 24 => ⟨S128x8x1, .f32⟩
  | 25 => ⟨S128x8x1, .f32⟩
  | 26 => ⟨S128x8x1, .f32⟩
  | 27 => ⟨S128x8x1, .f32⟩
  | 28 => ⟨S128x8x6, .f32⟩
  | 29 => ⟨S128x8x128, .f32⟩
  | 30 => ⟨S1x1x128, .f32⟩
  | 31 => ⟨S128x8x128, .f32⟩
  | 32 => ⟨S128x8x128, .f32⟩
  | 33 => ⟨S_, .f32⟩
  | 34 => ⟨S128x8, .f32⟩
  | 35 => ⟨S128x8x1, .f32⟩
  | 36 => ⟨S_, .f32⟩
  | 37 => ⟨S128x8x1, .f32⟩
  | 38 => ⟨S128x8x1, .f32⟩
  | 39 => ⟨S128x8x128, .f32⟩
  | 40 => ⟨S128x8x128, .f32⟩
  | 41 => ⟨S128x8x128, .f32⟩
  | 42 => ⟨S_, .f32⟩
  | 43 => ⟨S128x8, .f32⟩
  | 44 => ⟨S128x8x1, .f32⟩
  | 45 => ⟨S_, .f32⟩
  | 46 => ⟨S128x8x1, .f32⟩
  | 47 => ⟨S128x8x1, .f32⟩
  | 48 => ⟨S128x8x128, .f32⟩
  | 49 => ⟨S128x8x128, .f32⟩
  | 50 => ⟨S_, .f32⟩
  | 51 => ⟨S128x8x1, .f32⟩
  | 52 => ⟨S128x8x1, .f32⟩
  | 53 => ⟨S128x8x1, .f32⟩
  | 54 => ⟨S128x8x128, .f32⟩
  | 55 => ⟨S128x8x128, .f32⟩
  | 56 => ⟨S1x1x128, .f32⟩
  | 57 => ⟨S128x8x128, .f32⟩
  | 58 => ⟨S128x8x128, .f32⟩
  | 59 => ⟨S1x1x128, .f32⟩
  | 60 => ⟨S128x8x128, .f32⟩
  | 61 => ⟨S128x8x128, .f32⟩
  | 62 => ⟨S_, .f32⟩
  | 63 => ⟨S128x8x128, .f32⟩
  | 64 => ⟨S128x8x128, .f32⟩
  | 65 => ⟨S128x8x128, .f32⟩
  | 66 => ⟨S_, .f32⟩
  | 67 => ⟨S128x8x128, .f32⟩
  | 68 => ⟨S128x8x128, .f32⟩
  | 69 => ⟨S128x8x128, .f32⟩
  | 70 => ⟨S128x8x128, .f32⟩
  | 71 => ⟨S_, .f32⟩
  | 72 => ⟨S128x8, .f32⟩
  | 73 => ⟨S128x8x1, .f32⟩
  | 74 => ⟨S_, .f32⟩
  | 75 => ⟨S128x8x1, .f32⟩
  | 76 => ⟨S128x8x1, .f32⟩
  | 77 => ⟨S128x8x128, .f32⟩
  | 78 => ⟨S128x8x128, .f32⟩
  | 79 => ⟨S128x8x128, .f32⟩
  | 80 => ⟨S_, .f32⟩
  | 81 => ⟨S128x8, .f32⟩
  | 82 => ⟨S128x8x1, .f32⟩
  | 83 => ⟨S_, .f32⟩
  | 84 => ⟨S128x8x1, .f32⟩
  | 85 => ⟨S128x8x1, .f32⟩
  | 86 => ⟨S128x8x128, .f32⟩
  | 87 => ⟨S128x8x128, .f32⟩
  | 88 => ⟨S_, .f32⟩
  | 89 => ⟨S128x8x1, .f32⟩
  | 90 => ⟨S128x8x1, .f32⟩
  | 91 => ⟨S128x8x1, .f32⟩
  | 92 => ⟨S128x8x128, .f32⟩
  | 93 => ⟨S128x8x128, .f32⟩
  | 94 => ⟨S1x1x128, .f32⟩
  | 95 => ⟨S128x8x128, .f32⟩
  | 96 => ⟨S128x8x128, .f32⟩
  | 97 => ⟨S1x1x128, .f32⟩
  | 98 => ⟨S128x8x128, .f32⟩
  | 99 => ⟨S128x8x128, .f32⟩
  | 100 => ⟨S128x8x256, .f32⟩
  | 101 => ⟨S1x1x256, .f32⟩
  | 102 => ⟨S128x8x256, .f32⟩
  | 103 => ⟨S128x8x256, .f32⟩
  | 104 => ⟨S_, .f32⟩
  | 105 => ⟨S128x8x256, .f32⟩
  | 106 => ⟨S128x8x256, .f32⟩
  | 107 => ⟨S128x8x256, .f32⟩
  | 108 => ⟨S_, .f32⟩
  | 109 => ⟨S128x8x256, .f32⟩
  | 110 => ⟨S128x8x256, .f32⟩
  | 111 => ⟨S128x8x256, .f32⟩
  | 112 => ⟨S128x8x256, .f32⟩
  | 113 => ⟨S128x8x128, .f32⟩
  | 114 => ⟨S1x1x128, .f32⟩
  | 115 => ⟨S128x8x128, .f32⟩
  | 116 => ⟨S128x8x128, .f32⟩
  | 117 => ⟨S128x8x128, .f32⟩
  | 118 => ⟨S_, .f32⟩
  | 119 => ⟨S128x8, .f32⟩
  | 120 => ⟨S128x8x1, .f32⟩
  | 121 => ⟨S_, .f32⟩
  | 122 => ⟨S128x8x1, .f32⟩
  | 123 => ⟨S128x8x1, .f32⟩
  | 124 => ⟨S128x8x128, .f32⟩
  | 125 => ⟨S128x8x128, .f32⟩
  | 126 => ⟨S128x8x128, .f32⟩
  | 127 => ⟨S_, .f32⟩
  | _ => ⟨S128x2x8192, .f32⟩

abbrev hbmTy0_2 (i : Nat) : BufTy := match i % 128 with
  | 0 => ⟨S128x8, .f32⟩
  | 1 => ⟨S128x8x1, .f32⟩
  | 2 => ⟨S_, .f32⟩
  | 3 => ⟨S128x8x1, .f32⟩
  | 4 => ⟨S128x8x1, .f32⟩
  | 5 => ⟨S128x8x128, .f32⟩
  | 6 => ⟨S128x8x128, .f32⟩
  | 7 => ⟨S_, .f32⟩
  | 8 => ⟨S128x8x1, .f32⟩
  | 9 => ⟨S128x8x1, .f32⟩
  | 10 => ⟨S128x8x1, .f32⟩
  | 11 => ⟨S128x8x128, .f32⟩
  | 12 => ⟨S128x8x128, .f32⟩
  | 13 => ⟨S1x1x128, .f32⟩
  | 14 => ⟨S128x8x128, .f32⟩
  | 15 => ⟨S128x8x128, .f32⟩
  | 16 => ⟨S1x1x128, .f32⟩
  | 17 => ⟨S128x8x128, .f32⟩
  | 18 => ⟨S128x8x128, .f32⟩
  | 19 => ⟨S128x8x256, .f32⟩
  | 20 => ⟨S1x1x256, .f32⟩
  | 21 => ⟨S128x8x256, .f32⟩
  | 22 => ⟨S128x8x256, .f32⟩
  | 23 => ⟨S_, .f32⟩
  | 24 => ⟨S128x8x256, .f32⟩
  | 25 => ⟨S128x8x256, .f32⟩
  | 26 => ⟨S128x8x256, .f32⟩
  | 27 => ⟨S_, .f32⟩
  | 28 => ⟨S128x8x256, .f32⟩
  | 29 => ⟨S128x8x256, .f32⟩
  | 30 => ⟨S128x8x256, .f32⟩
  | 31 => ⟨S128x8x256, .f32⟩
  | 32 => ⟨S128x8x128, .f32⟩
  | 33 => ⟨S1x1x128, .f32⟩
  | 34 => ⟨S128x8x128, .f32⟩
  | 35 => ⟨S128x8x128, .f32⟩
  | 36 => ⟨S128x8x128, .f32⟩
  | 37 => ⟨S_, .f32⟩
  | 38 => ⟨S128x8, .f32⟩
  | 39 => ⟨S128x8x1, .f32⟩
  | 40 => ⟨S_, .f32⟩
  | 41 => ⟨S128x8x1, .f32⟩
  | 42 => ⟨S128x8x1, .f32⟩
  | 43 => ⟨S128x8x128, .f32⟩
  | 44 => ⟨S128x8x128, .f32⟩
  | 45 => ⟨S128x8x128, .f32⟩
  | 46 => ⟨S_, .f32⟩
  | 47 => ⟨S128x8, .f32⟩
  | 48 => ⟨S128x8x1, .f32⟩
  | 49 => ⟨S_, .f32⟩
  | 50 => ⟨S128x8x1, .f32⟩
  | 51 => ⟨S128x8x1, .f32⟩
  | 52 => ⟨S128x8x128, .f32⟩
  | 53 => ⟨S128x8x128, .f32⟩
  | 54 => ⟨S_, .f32⟩
  | 55 => ⟨S128x8x1, .f32⟩
  | 56 => ⟨S128x8x1, .f32⟩
  | 57 => ⟨S128x8x1, .f32⟩
  | 58 => ⟨S128x8x128, .f32⟩
  | 59 => ⟨S128x8x128, .f32⟩
  | 60 => ⟨S1x1x128, .f32⟩
  | 61 => ⟨S128x8x128, .f32⟩
  | 62 => ⟨S128x8x128, .f32⟩
  | 63 => ⟨S1x1x128, .f32⟩
  | 64 => ⟨S128x8x128, .f32⟩
  | 65 => ⟨S128x8x128, .f32⟩
  | 66 => ⟨S128x8x256, .f32⟩
  | 67 => ⟨S1x1x256, .f32⟩
  | 68 => ⟨S128x8x256, .f32⟩
  | 69 => ⟨S128x8x256, .f32⟩
  | 70 => ⟨S_, .f32⟩
  | 71 => ⟨S128x8x256, .f32⟩
  | 72 => ⟨S128x8x256, .f32⟩
  | 73 => ⟨S128x8x256, .f32⟩
  | 74 => ⟨S_, .f32⟩
  | 75 => ⟨S128x8x256, .f32⟩
  | 76 => ⟨S128x8x256, .f32⟩
  | 77 => ⟨S128x8x256, .f32⟩
  | 78 => ⟨S128x8x256, .f32⟩
  | 79 => ⟨S128x8x128, .f32⟩
  | 80 => ⟨S1x1x128, .f32⟩
  | 81 => ⟨S128x8x128, .f32⟩
  | 82 => ⟨S128x8x128, .f32⟩
  | 83 => ⟨S128x8x128, .f32⟩
  | 84 => ⟨S_, .f32⟩
  | 85 => ⟨S128x8, .f32⟩
  | 86 => ⟨S128x8x1, .f32⟩
  | 87 => ⟨S_, .f32⟩
  | 88 => ⟨S128x8x1, .f32⟩
  | 89 => ⟨S128x8x1, .f32⟩
  | 90 => ⟨S128x8x128, .f32⟩
  | 91 => ⟨S128x8x128, .f32⟩
  | 92 => ⟨S128x8x128, .f32⟩
  | 93 => ⟨S_, .f32⟩
  | 94 => ⟨S128x8, .f32⟩
  | 95 => ⟨S128x8x1, .f32⟩
  | 96 => ⟨S_, .f32⟩
  | 97 => ⟨S128x8x1, .f32⟩
  | 98 => ⟨S128x8x1, .f32⟩
  | 99 => ⟨S128x8x128, .f32⟩
  | 100 => ⟨S128x8x128, .f32⟩
  | 101 => ⟨S_, .f32⟩
  | 102 => ⟨S128x8x1, .f32⟩
  | 103 => ⟨S128x8x1, .f32⟩
  | 104 => ⟨S128x8x1, .f32⟩
  | 105 => ⟨S128x8x128, .f32⟩
  | 106 => ⟨S128x8x128, .f32⟩
  | 107 => ⟨S1x1x128, .f32⟩
  | 108 => ⟨S128x8x128, .f32⟩
  | 109 => ⟨S128x8x128, .f32⟩
  | 110 => ⟨S1x1x128, .f32⟩
  | 111 => ⟨S128x8x128, .f32⟩
  | 112 => ⟨S128x8x128, .f32⟩
  | 113 => ⟨S128x8x64, .f32⟩
  | 114 => ⟨S1x1x64, .f32⟩
  | 115 => ⟨S128x8x64, .f32⟩
  | 116 => ⟨S128x8x64, .f32⟩
  | 117 => ⟨S_, .f32⟩
  | 118 => ⟨S128x8x64, .f32⟩
  | 119 => ⟨S128x8x64, .f32⟩
  | 120 => ⟨S128x8x64, .f32⟩
  | 121 => ⟨S_, .f32⟩
  | 122 => ⟨S128x8x64, .f32⟩
  | 123 => ⟨S128x8x64, .f32⟩
  | 124 => ⟨S128x8x64, .f32⟩
  | 125 => ⟨S128x8x64, .f32⟩
  | 126 => ⟨S128x8x2, .f32⟩
  | 127 => ⟨S1x1x2, .f32⟩
  | _ => ⟨S128x2x8192, .f32⟩

abbrev hbmTy0_3 (i : Nat) : BufTy := match i % 128 with
  | 0 => ⟨S128x8x2, .f32⟩
  | 1 => ⟨S128x8x2, .f32⟩
  | 2 => ⟨S128x2x8, .f32⟩
  | 3 => ⟨S128x1x8, .f32⟩
  | 4 => ⟨S128x1x8, .f32⟩
  | 5 => ⟨S128x1x8, .f32⟩
  | 6 => ⟨S128x1x8, .i1⟩
  | 7 => ⟨S128x1x8, .f32⟩
  | 8 => ⟨S128x6x8, .f32⟩
  | _ => ⟨S128x2x8192, .f32⟩

abbrev hbmTy (i : Nat) : BufTy := match i / 128 with
  | 0 => hbmTy0_0 i
  | 1 => hbmTy0_1 i
  | 2 => hbmTy0_2 i
  | 3 => hbmTy0_3 i
  | _ => ⟨S128x2x8192, .f32⟩

abbrev bufTy : (tb : Table) → Fin (tcTables nBuf tb) → BufTy
  | .hbm, ⟨i, _⟩ => hbmTy i
  | _, _ => ⟨S128x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_values : Ref sig .tc := ⟨.hbm, 53, rfl⟩
abbrev main_indices : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v20 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v21 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v22 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_c_4 : Ref sig .tc := ⟨.hbm, 140, rfl⟩
abbrev main_call4_v14 : Ref sig .tc := ⟨.hbm, 141, rfl⟩
abbrev main_v23 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_cst_2 : Ref sig .tc := ⟨.hbm, 146, rfl⟩
abbrev main_v27 : Ref sig .tc := ⟨.hbm, 147, rfl⟩
abbrev main_v28 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_v34 : Ref sig .tc := ⟨.hbm, 154, rfl⟩
abbrev main_v35 : Ref sig .tc := ⟨.hbm, 155, rfl⟩
abbrev main_v36 : Ref sig .tc := ⟨.hbm, 156, rfl⟩
abbrev main_v37 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩
abbrev main_cst_3 : Ref sig .tc := ⟨.hbm, 161, rfl⟩
abbrev main_v41 : Ref sig .tc := ⟨.hbm, 162, rfl⟩
abbrev main_v42 : Ref sig .tc := ⟨.hbm, 163, rfl⟩
abbrev main_cst_4 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_cst_5 : Ref sig .tc := ⟨.hbm, 170, rfl⟩
abbrev main_v48 : Ref sig .tc := ⟨.hbm, 171, rfl⟩
abbrev main_v49 : Ref sig .tc := ⟨.hbm, 172, rfl⟩
abbrev main_cst_6 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_cst_7 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_cst_8 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_cst_9 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_cst_10 : Ref sig .tc := ⟨.hbm, 199, rfl⟩
abbrev main_v72 : Ref sig .tc := ⟨.hbm, 200, rfl⟩
abbrev main_v73 : Ref sig .tc := ⟨.hbm, 201, rfl⟩
abbrev main_cst_11 : Ref sig .tc := ⟨.hbm, 202, rfl⟩
abbrev main_v74 : Ref sig .tc := ⟨.hbm, 203, rfl⟩
abbrev main_v75 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_cst_12 : Ref sig .tc := ⟨.hbm, 208, rfl⟩
abbrev main_v79 : Ref sig .tc := ⟨.hbm, 209, rfl⟩
abbrev main_v80 : Ref sig .tc := ⟨.hbm, 210, rfl⟩
abbrev main_cst_13 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_cst_14 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_cst_15 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_cst_16 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_cst_17 : Ref sig .tc := ⟨.hbm, 246, rfl⟩
abbrev main_v112 : Ref sig .tc := ⟨.hbm, 247, rfl⟩
abbrev main_v113 : Ref sig .tc := ⟨.hbm, 248, rfl⟩
abbrev main_cst_18 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_cst_19 : Ref sig .tc := ⟨.hbm, 255, rfl⟩
abbrev main_v119 : Ref sig .tc := ⟨.hbm, 256, rfl⟩
abbrev main_v120 : Ref sig .tc := ⟨.hbm, 257, rfl⟩
abbrev main_cst_20 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_cst_21 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_cst_22 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_cst_23 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_cst_24 : Ref sig .tc := ⟨.hbm, 293, rfl⟩
abbrev main_v152 : Ref sig .tc := ⟨.hbm, 294, rfl⟩
abbrev main_v153 : Ref sig .tc := ⟨.hbm, 295, rfl⟩
abbrev main_cst_25 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_cst_26 : Ref sig .tc := ⟨.hbm, 302, rfl⟩
abbrev main_v159 : Ref sig .tc := ⟨.hbm, 303, rfl⟩
abbrev main_v160 : Ref sig .tc := ⟨.hbm, 304, rfl⟩
abbrev main_cst_27 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_v164 : Ref sig .tc := ⟨.hbm, 309, rfl⟩
abbrev main_cst_28 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_cst_29 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_cst_30 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_cst_31 : Ref sig .tc := ⟨.hbm, 340, rfl⟩
abbrev main_v192 : Ref sig .tc := ⟨.hbm, 341, rfl⟩
abbrev main_v193 : Ref sig .tc := ⟨.hbm, 342, rfl⟩
abbrev main_cst_32 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_cst_33 : Ref sig .tc := ⟨.hbm, 349, rfl⟩
abbrev main_v199 : Ref sig .tc := ⟨.hbm, 350, rfl⟩
abbrev main_v200 : Ref sig .tc := ⟨.hbm, 351, rfl⟩
abbrev main_cst_34 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_cst_35 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩
abbrev main_v211 : Ref sig .tc := ⟨.hbm, 364, rfl⟩
abbrev main_v212 : Ref sig .tc := ⟨.hbm, 365, rfl⟩
abbrev main_v213 : Ref sig .tc := ⟨.hbm, 366, rfl⟩
abbrev main_v214 : Ref sig .tc := ⟨.hbm, 367, rfl⟩
abbrev main_v215 : Ref sig .tc := ⟨.hbm, 368, rfl⟩
abbrev main_v216 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_cst_36 : Ref sig .tc := ⟨.hbm, 373, rfl⟩
abbrev main_v220 : Ref sig .tc := ⟨.hbm, 374, rfl⟩
abbrev main_v221 : Ref sig .tc := ⟨.hbm, 375, rfl⟩
abbrev main_v222 : Ref sig .tc := ⟨.hbm, 376, rfl⟩
abbrev main_cst_37 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩

abbrev nD : Nat := 1
abbrev τ : Topo := Topo.v7x

variable {F : FTy → Type} [FloatOps F]
-- ==== Proof.FrontIdeal.lean ====
/- The idealized kernel's first region: what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the arrays' long axes need deep recursion in the membership proofs of their rectangles
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__front_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S16x8192 := Rect.unit (s := S16x8192) ![0, 0] S16x8192.size inb_S16x8192_S16x8192_0_0
abbrev r0_1 : Rect S16x8 := Rect.unit (s := S16x8) ![0, 0] S16x8.size inb_S16x8_S16x8_0_0
abbrev r0_2 : Rect S16x8 := Rect.unit (s := S16x8) ![0, 0] S16x1.size inb_S16x8_S16x1_0_0
abbrev r0_3 : Rect S16x8 := Rect.unit (s := S16x8) ![0, 1] S16x1.size inb_S16x8_S16x1_0_1
abbrev r0_4 : Rect S16x8 := Rect.unit (s := S16x8) ![0, 2] S16x1.size inb_S16x8_S16x1_0_2
abbrev r0_5 : Rect S16x8 := Rect.unit (s := S16x8) ![0, 3] S16x1.size inb_S16x8_S16x1_0_3
abbrev r0_6 : Rect S16x8 := Rect.unit (s := S16x8) ![0, 4] S16x1.size inb_S16x8_S16x1_0_4
abbrev r0_7 : Rect S16x8 := Rect.unit (s := S16x8) ![0, 5] S16x1.size inb_S16x8_S16x1_0_5
abbrev r0_8 : Rect S16x8 := Rect.unit (s := S16x8) ![0, 6] S16x1.size inb_S16x8_S16x1_0_6
abbrev r0_9 : Rect S16x8 := Rect.unit (s := S16x8) ![0, 7] S16x1.size inb_S16x8_S16x1_0_7

/-! ## What the body leaves in each output window's buffer -/

/-! ### Values of the body that the stores' payloads, spelt out, would write more than once

    Each is a vector the body binds (often a part call's result), stated over the input windows' blocks and
    numbered on from the skeleton's payload functions (`k0_pay66` …, after `k0_pay65`), so that
    `out0_W` and the values after it name it instead of spelling it out (`unfold_out out0_W` opens a canon
    with them, `unfold_payloads` opens them with the payloads); the comment after each is the printed function's
    name for the value (a count appended where that name is bound again). -/

def k0_pay66 (x0 : Vec F S16x8192 .f32) (x1 : Vec F S16x8192 .f32) : IVec S16x8192 32 :=
  iota .tc S16x8192 32 [1] iota_S16x8192_d1_w32 -- `v10`
def k0_pay67 (x0 : Vec F S16x8192 .f32) (x1 : Vec F S16x8192 .f32) : FVec F S16x8192 .f32 :=
  k0_pay2 (View.ld x0 r0_0) -- `v1`
def k0_pay68 (x0 : Vec F S16x8192 .f32) (x1 : Vec F S16x8192 .f32) : FVec F S16x8192 .f32 :=
  k0_pay3 (View.ld x0 r0_0) -- `v6`
def k0_pay69 (x0 : Vec F S16x8192 .f32) (x1 : Vec F S16x8192 .f32) : FVec F S16x8192 .f32 :=
  k0_pay6 (View.ld x1 r0_0) -- `v26`
def k0_pay70 (x0 : Vec F S16x8192 .f32) (x1 : Vec F S16x8192 .f32) : FVec F S16x8192 .f32 :=
  k0_pay7 (View.ld x0 r0_0) (View.ld x1 r0_0) -- `v28`
def k0_pay71 (x0 : Vec F S16x8192 .f32) (x1 : Vec F S16x8192 .f32) : IVec S16x8192 1 :=
  k0_pay9 (View.ld x0 r0_0) (View.ld x1 r0_0) -- `v38`
def k0_pay72 (x0 : Vec F S16x8192 .f32) (x1 : Vec F S16x8192 .f32) : FVec F S16x8192 .f32 :=
  k0_pay15 (k0_pay70 x0 x1) (k0_pay71 x0 x1) -- `v60`
def k0_pay73 (x0 : Vec F S16x8192 .f32) (x1 : Vec F S16x8192 .f32) : IVec S16x8192 1 :=
  k0_pay17 (k0_pay66 x0 x1) (k0_pay70 x0 x1) (k0_pay71 x0 x1) -- `v70`
def k0_pay74 (x0 : Vec F S16x8192 .f32) (x1 : Vec F S16x8192 .f32) : FVec F S16x8192 .f32 :=
  k0_pay22 (k0_pay72 x0 x1) (k0_pay73 x0 x1) -- `v92`
def k0_pay75 (x0 : Vec F S16x8192 .f32) (x1 : Vec F S16x8192 .f32) : IVec S16x8192 1 :=
  k0_pay24 (k0_pay66 x0 x1) (k0_pay72 x0 x1) (k0_pay73 x0 x1) -- `v102`
def k0_pay76 (x0 : Vec F S16x8192 .f32) (x1 : Vec F S16x8192 .f32) : FVec F S16x8192 .f32 :=
  k0_pay30 (k0_pay74 x0 x1) (k0_pay75 x0 x1) -- `v124`
def k0_pay77 (x0 : Vec F S16x8192 .f32) (x1 : Vec F S16x8192 .f32) : IVec S16x8192 1 :=
  k0_pay32 (k0_pay66 x0 x1) (k0_pay74 x0 x1) (k0_pay75 x0 x1) -- `v134`
def k0_pay78 (x0 : Vec F S16x8192 .f32) (x1 : Vec F S16x8192 .f32) : FVec F S16x8192 .f32 :=
  k0_pay37 (k0_pay76 x0 x1) (k0_pay77 x0 x1) -- `v156`
def k0_pay79 (x0 : Vec F S16x8192 .f32) (x1 : Vec F S16x8192 .f32) : IVec S16x8192 1 :=
  k0_pay39 (k0_pay66 x0 x1) (k0_pay76 x0 x1) (k0_pay77 x0 x1) -- `v166`
def k0_pay80 (x0 : Vec F S16x8192 .f32) (x1 : Vec F S16x8192 .f32) : FVec F S16x8192 .f32 :=
  k0_pay45 (k0_pay78 x0 x1) (k0_pay79 x0 x1) -- `v188`
def k0_pay81 (x0 : Vec F S16x8192 .f32) (x1 : Vec F S16x8192 .f32) : IVec S16x8192 1 :=
  k0_pay47 (k0_pay66 x0 x1) (k0_pay78 x0 x1) (k0_pay79 x0 x1) -- `v198`
def k0_pay82 (x0 : Vec F S16x8192 .f32) (x1 : Vec F S16x8192 .f32) : FVec F S16x8192 .f32 :=
  k0_pay52 (k0_pay80 x0 x1) (k0_pay81 x0 x1) -- `v220`
def k0_pay83 (x0 : Vec F S16x8192 .f32) (x1 : Vec F S16x8192 .f32) : IVec S16x8192 1 :=
  k0_pay54 (k0_pay66 x0 x1) (k0_pay80 x0 x1) (k0_pay81 x0 x1) -- `v230`

/-- Window 2's staging buffer after the body, from the input windows' blocks: its 8 stores as pieces, LAST
    FIRST (Lib/Pipeline/FrameBody.lean `View.canon`; the payloads are the skeleton's and the values stated above). -/
def out0_2 (x0 : Vec F S16x8192 .f32) (x1 : Vec F S16x8192 .f32) : Vec F S16x8 .f32 :=
  View.canon [⟨r0_9, k0_pay62 (k0_pay67 x0 x1) (k0_pay66 x0 x1) (k0_pay82 x0 x1) (k0_pay83 x0 x1)⟩,
    ⟨r0_8, k0_pay55 (k0_pay67 x0 x1) (k0_pay66 x0 x1) (k0_pay80 x0 x1) (k0_pay81 x0 x1)⟩,
    ⟨r0_7, k0_pay48 (k0_pay67 x0 x1) (k0_pay66 x0 x1) (k0_pay78 x0 x1) (k0_pay79 x0 x1)⟩,
    ⟨r0_6, k0_pay40 (k0_pay67 x0 x1) (k0_pay66 x0 x1) (k0_pay76 x0 x1) (k0_pay77 x0 x1)⟩,
    ⟨r0_5, k0_pay33 (k0_pay67 x0 x1) (k0_pay66 x0 x1) (k0_pay74 x0 x1) (k0_pay75 x0 x1)⟩,
    ⟨r0_4, k0_pay25 (k0_pay67 x0 x1) (k0_pay66 x0 x1) (k0_pay72 x0 x1) (k0_pay73 x0 x1)⟩,
    ⟨r0_3, k0_pay18 (k0_pay67 x0 x1) (k0_pay66 x0 x1) (k0_pay70 x0 x1) (k0_pay71 x0 x1)⟩,
    ⟨r0_2, k0_pay11 (k0_pay10 (View.ld x0 r0_0) (View.ld x1 r0_0))⟩]

/-- Its stores tile the buffer (checked by evaluation), so they cover it. -/
theorem cover0_2 (p0 : Vec F S16x1 .f32) (p1 : Vec F S16x1 .f32) (p2 : Vec F S16x1 .f32) (p3 : Vec F S16x1 .f32) (p4 : Vec F S16x1 .f32) (p5 : Vec F S16x1 .f32) (p6 : Vec F S16x1 .f32) (p7 : Vec F S16x1 .f32) (y : S16x8.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S16x8 .f32)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S16x1.size (by rfl) y

/-- Window 3's staging buffer after the body, from the input windows' blocks: its 8 stores as pieces, LAST
    FIRST (Lib/Pipeline/FrameBody.lean `View.canon`; the payloads are the skeleton's and the values stated above). -/
def out0_3 (x0 : Vec F S16x8192 .f32) (x1 : Vec F S16x8192 .f32) : Vec F S16x8 .f32 :=
  View.canon [⟨r0_9, k0_pay63 (k0_pay68 x0 x1) (k0_pay66 x0 x1) (k0_pay82 x0 x1) (k0_pay83 x0 x1)⟩,
    ⟨r0_8, k0_pay56 (k0_pay68 x0 x1) (k0_pay66 x0 x1) (k0_pay80 x0 x1) (k0_pay81 x0 x1)⟩,
    ⟨r0_7, k0_pay49 (k0_pay68 x0 x1) (k0_pay66 x0 x1) (k0_pay78 x0 x1) (k0_pay79 x0 x1)⟩,
    ⟨r0_6, k0_pay41 (k0_pay68 x0 x1) (k0_pay66 x0 x1) (k0_pay76 x0 x1) (k0_pay77 x0 x1)⟩,
    ⟨r0_5, k0_pay34 (k0_pay68 x0 x1) (k0_pay66 x0 x1) (k0_pay74 x0 x1) (k0_pay75 x0 x1)⟩,
    ⟨r0_4, k0_pay27 (k0_pay26 (k0_pay68 x0 x1) (k0_pay66 x0 x1) (k0_pay72 x0 x1) (k0_pay73 x0 x1))⟩,
    ⟨r0_3, k0_pay19 (k0_pay68 x0 x1) (k0_pay73 x0 x1)⟩,
    ⟨r0_2, k0_pay12 (k0_pay68 x0 x1) (k0_pay71 x0 x1)⟩]

/-- Its stores tile the buffer (checked by evaluation), so they cover it. -/
theorem cover0_3 (p0 : Vec F S16x1 .f32) (p1 : Vec F S16x1 .f32) (p2 : Vec F S16x1 .f32) (p3 : Vec F S16x1 .f32) (p4 : Vec F S16x1 .f32) (p5 : Vec F S16x1 .f32) (p6 : Vec F S16x1 .f32) (p7 : Vec F S16x1 .f32) (y : S16x8.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S16x8 .f32)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S16x1.size (by rfl) y

/-- Window 4's staging buffer after the body, from the input windows' blocks: its 8 stores as pieces, LAST
    FIRST (Lib/Pipeline/FrameBody.lean `View.canon`; the payloads are the skeleton's and the values stated above). -/
def out0_4 (x0 : Vec F S16x8192 .f32) (x1 : Vec F S16x8192 .f32) : Vec F S16x8 .f32 :=
  View.canon [⟨r0_9, k0_pay64 (k0_pay66 x0 x1) (k0_pay69 x0 x1) (k0_pay82 x0 x1) (k0_pay83 x0 x1)⟩,
    ⟨r0_8, k0_pay57 (k0_pay66 x0 x1) (k0_pay69 x0 x1) (k0_pay80 x0 x1) (k0_pay81 x0 x1)⟩,
    ⟨r0_7, k0_pay50 (k0_pay66 x0 x1) (k0_pay69 x0 x1) (k0_pay78 x0 x1) (k0_pay79 x0 x1)⟩,
    ⟨r0_6, k0_pay43 (k0_pay42 (k0_pay66 x0 x1) (k0_pay69 x0 x1) (k0_pay76 x0 x1) (k0_pay77 x0 x1))⟩,
    ⟨r0_5, k0_pay35 (k0_pay69 x0 x1) (k0_pay77 x0 x1)⟩,
    ⟨r0_4, k0_pay28 (k0_pay69 x0 x1) (k0_pay75 x0 x1)⟩,
    ⟨r0_3, k0_pay20 (k0_pay69 x0 x1) (k0_pay73 x0 x1)⟩,
    ⟨r0_2, k0_pay13 (k0_pay69 x0 x1) (k0_pay71 x0 x1)⟩]

/-- Its stores tile the buffer (checked by evaluation), so they cover it. -/
theorem cover0_4 (p0 : Vec F S16x1 .f32) (p1 : Vec F S16x1 .f32) (p2 : Vec F S16x1 .f32) (p3 : Vec F S16x1 .f32) (p4 : Vec F S16x1 .f32) (p5 : Vec F S16x1 .f32) (p6 : Vec F S16x1 .f32) (p7 : Vec F S16x1 .f32) (y : S16x8.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S16x8 .f32)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S16x1.size (by rfl) y

/-- Window 5's staging buffer after the body, from the input windows' blocks: its 8 stores as pieces, LAST
    FIRST (Lib/Pipeline/FrameBody.lean `View.canon`; the payloads are the skeleton's and the values stated above). -/
def out0_5 (x0 : Vec F S16x8192 .f32) (x1 : Vec F S16x8192 .f32) : Vec F S16x8 .f32 :=
  View.canon [⟨r0_9, k0_pay1 (F := F) (k0_pay65 (k0_pay82 x0 x1) (k0_pay83 x0 x1))⟩,
    ⟨r0_8, k0_pay58 (k0_pay80 x0 x1) (k0_pay81 x0 x1)⟩,
    ⟨r0_7, k0_pay51 (k0_pay46 (k0_pay78 x0 x1) (k0_pay79 x0 x1))⟩,
    ⟨r0_6, k0_pay44 (k0_pay38 (k0_pay76 x0 x1) (k0_pay77 x0 x1))⟩,
    ⟨r0_5, k0_pay36 (k0_pay31 (k0_pay74 x0 x1) (k0_pay75 x0 x1))⟩,
    ⟨r0_4, k0_pay29 (k0_pay23 (k0_pay72 x0 x1) (k0_pay73 x0 x1))⟩,
    ⟨r0_3, k0_pay21 (k0_pay16 (k0_pay70 x0 x1) (k0_pay71 x0 x1))⟩,
    ⟨r0_2, k0_pay14 (k0_pay8 (View.ld x0 r0_0) (View.ld x1 r0_0))⟩]

/-- Its stores tile the buffer (checked by evaluation), so they cover it. -/
theorem cover0_5 (p0 : Vec F S16x1 .f32) (p1 : Vec F S16x1 .f32) (p2 : Vec F S16x1 .f32) (p3 : Vec F S16x1 .f32) (p4 : Vec F S16x1 .f32) (p5 : Vec F S16x1 .f32) (p6 : Vec F S16x1 .f32) (p7 : Vec F S16x1 .f32) (y : S16x8.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S16x8 .f32)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S16x1.size (by rfl) y

/-- Window 6's staging buffer after the body, from the input windows' blocks: its 1 store as pieces, LAST
    FIRST (Lib/Pipeline/FrameBody.lean `View.canon`; the payloads are the skeleton's and the values stated above). -/
def out0_6 (x0 : Vec F S16x8192 .f32) (x1 : Vec F S16x8192 .f32) : Vec F S16x8 .i32 :=
  View.canon [⟨r0_1, k0_pay5 (View.ld x0 r0_0)⟩]

/-- Its stores tile the buffer (checked by evaluation), so they cover it. -/
theorem cover0_6 (p0 : Vec F S16x8 .i32) (y : S16x8.Idx) :
    ∃ pc ∈ ([⟨r0_1, p0⟩] : List (View.Piece (Elt F) S16x8 .i32)), y ∈ pc.1.set :=
  View.cover_of_tiled [⟨r0_1, p0⟩] S16x8.size (by rfl) y

/-! ## The body's triple -/

set_option maxHeartbeats 4133000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S16x8192 .f32) (harg1 : arg1.IsWhole) (arg2 : Memref sig .tc .vmem S16x8192 .f32) (harg2 : arg2.IsWhole) (arg3 : Memref sig .tc .vmem S16x8 .f32) (harg3 : arg3.IsWhole) (arg4 : Memref sig .tc .vmem S16x8 .f32) (harg4 : arg4.IsWhole) (arg5 : Memref sig .tc .vmem S16x8 .f32) (harg5 : arg5.IsWhole) (arg6 : Memref sig .tc .vmem S16x8 .f32) (harg6 : arg6.IsWhole) (arg7 : Memref sig .tc .vmem S16x8 .i32) (harg7 : arg7.IsWhole)
    (x0 : Vec F S16x8192 .f32) (x1 : Vec F S16x8192 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1) ∗ owns (c : Thread nD τ) arg7 fullShare (out0_6 x0 x1)) -∗ K ⟨⟩))
      ⊢ wp frame (wpE (defs₀ (F := F)) Variants.none c none) E (cc0__front_kernel i arg1 harg1 arg2 harg2 arg3 harg3 arg4 harg4 arg5 harg5 arg6 harg6 arg7 harg7) K := by
  simp only [cc0__front_kernel_eq_skeleton]; unfold cc0__front_kernel_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  isplitl [H3]
  · iexists _; isplitr
    swap; · iexact H3
    ipureintro
    refine (View.read_writes_eq_canon _ _ _ (cover0_3 _ _ _ _ _ _ _ _)).trans ?_
    rfl
  isplitl [H4]
  · iexists _; isplitr
    swap; · iexact H4
    ipureintro
    refine (View.read_writes_eq_canon _ _ _ (cover0_4 _ _ _ _ _ _ _ _)).trans ?_
    rfl
  isplitl [H5]
  · iexists _; isplitr
    swap; · iexact H5
    ipureintro
    refine (View.read_writes_eq_canon _ _ _ (cover0_5 _ _ _ _ _ _ _ _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

/-- The proof data's arrays are the region-entry contents, by projecting the definition (`dsimp`): a region record cites
    this for its arrays. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.MlpIdeal.lean ====
/- The idealized kernel's second region: what its body leaves in its output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the arrays' long axes need deep recursion in the membership proofs of their rectangles
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_26_of {c : Dev nD} (dat : Dat τ (Elt F) Unit ℕ (UR sig nD τ) ℕ cfg1 c) (hA : dat.A 26 = V c (Pipeline.arrRef spec1 26))
    (hafter : ∀ t, dat.after 26 t = iblk1 V c 26 t) (t : Fin cfg1.N) (d) : dat.before 26 t d = iblk1 V c 26 t :=
  (dat.before_in_eq_fetched 26 rfl (fun _ => rfl) (fun _ _ _ => rfl) (fun t => by rw [hafter]; unfold Dat.blockOf iblk1; rw [hA]; try rfl) t d).trans
    (by unfold Dat.fetched Dat.blockOf iblk1; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_27_of {c : Dev nD} (dat : Dat τ (Elt F) Unit ℕ (UR sig nD τ) ℕ cfg1 c) (hA : dat.A 27 = V c (Pipeline.arrRef spec1 27))
    (hafter : ∀ t, dat.after 27 t = iblk1 V c 27 t) (t : Fin cfg1.N) (d) : dat.before 27 t d = iblk1 V c 27 t :=
  (dat.before_in_eq_fetched 27 rfl (fun _ => rfl) (fun _ _ _ => rfl) (fun t => by rw [hafter]; unfold Dat.blockOf iblk1; rw [hA]; try rfl) t d).trans
    (by unfold Dat.fetched Dat.blockOf iblk1; rw [hA]; try rfl)
/-- Input window 28's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_28_of {c : Dev nD} (dat : Dat τ (Elt F) Unit ℕ (UR sig nD τ) ℕ cfg1 c) (hA : dat.A 28 = V c (Pipeline.arrRef spec1 28))
    (hafter : ∀ t, dat.after 28 t = iblk1 V c 28 t) (t : Fin cfg1.N) (d) : dat.before 28 t d = iblk1 V c 28 t :=
  (dat.before_in_eq_fetched 28 rfl (fun _ => rfl) (fun _ _ _ => rfl) (fun t => by rw [hafter]; unfold Dat.blockOf iblk1; rw [hA]; try rfl) t d).trans
    (by unfold Dat.fetched Dat.blockOf iblk1; rw [hA]; try rfl)
/-- Input window 29's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_29_of {c : Dev nD} (dat : Dat τ (Elt F) Unit ℕ (UR sig nD τ) ℕ cfg1 c) (hA : dat.A 29 = V c (Pipeline.arrRef spec1 29))
    (hafter : ∀ t, dat.after 29 t = iblk1 V c 29 t) (t : Fin cfg1.N) (d) : dat.before 29 t d = iblk1 V c 29 t :=
  (dat.before_in_eq_fetched 29 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8x128 := Rect.unit (s := S8x128) ![0, 0] S8x128.size inb_S8x128_S8x128_0_0
abbrev r1_1 : Rect S6x128 := Rect.unit (s := S6x128) ![0, 0] S6x128.size inb_S6x128_S6x128_0_0
abbrev r1_2 : Rect S1x128 := Rect.unit (s := S1x128) ![0, 0] S1x128.size inb_S1x128_S1x128_0_0
abbrev r1_3 : Rect S128x256 := Rect.unit (s := S128x256) ![0, 0] S128x256.size inb_S128x256_S128x256_0_0
abbrev r1_4 : Rect S1x256 := Rect.unit (s := S1x256) ![0, 0] S1x256.size inb_S1x256_S1x256_0_0
abbrev r1_5 : Rect S256x128 := Rect.unit (s := S256x128) ![0, 0] S256x128.size inb_S256x128_S256x128_0_0
abbrev r1_6 : Rect S128x128 := Rect.unit (s := S128x128) ![0, 0] S128x128.size inb_S128x128_S128x128_0_0
abbrev r1_7 : Rect S1024x128 := Rect.unit (s := S1024x128) ![0, 0] S1024x128.size inb_S1024x128_S1024x128_0_0

/-! ## What the body leaves in each output window's buffer -/

/-! ### Values of the body that the stores' payloads, spelt out, would write more than once

    Each is a vector the body binds (often a part call's result), stated over the input windows' blocks and
    numbered on from the skeleton's payload functions (`k1_pay26` …, after `k1_pay25`), so that
    `out1_W` and the values after it name it instead of spelling it out (`unfold_out out1_W` opens a canon
    with them, `unfold_payloads` opens them with the payloads); the comment after each is the printed function's
    name for the value (a count appended where that name is bound again). -/

def k1_pay26 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S8x128 .f32 :=
  k1_pay5 (View.ld x0 r1_0) (View.ld x1 r1_0) -- `v18`
def k1_pay27 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S8x128x128 .f32 :=
  k1_pay6 (View.ld x0 r1_0) (View.ld x1 r1_0) (View.ld x2 r1_1) -- `v50`
def k1_pay28 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S8x128x1 .f32 :=
  k1_pay7 (View.ld x0 r1_0) (View.ld x1 r1_0) -- `v51`
def k1_pay29 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1x128 .f32 :=
  k1_pay8 (View.ld x2 r1_1) -- `v52`
def k1_pay30 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay9 (k1_pay26 x0 x1 x2 x3 x4 x5 x6 x7 x8 x9 x10 x11 x12 x13 x14 x15 x16 x17 x18 x19 x20 x21 x22 x23 x24 x25 x26 x27 x28 x29) (View.ld x2 r1_1) (k1_pay27 x0 x1 x2 x3 x4 x5 x6 x7 x8 x9 x10 x11 x12 x13 x14 x15 x16 x17 x18 x19 x20 x21 x22 x23 x24 x25 x26 x27 x28 x29) (k1_pay28 x0 x1 x2 x3 x4 x5 x6 x7 x8 x9 x10 x11 x12 x13 x14 x15 x16 x17 x18 x19 x20 x21 x22 x23 x24 x25 x26 x27 x28 x29) (k1_pay29 x0 x1 x2 x3 x4 x5 x6 x7 x8 x9 x10 x11 x12 x13 x14 x15 x16 x17 x18 x19 x20 x21 x22 x23 x24 x25 x26 x27 x28 x29) (View.ld x3 r1_2) (View.ld x4 r1_2) (View.ld x5 r1_2) -- `v97`
def k1_pay31 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay10 (k1_pay26 x0 x1 x2 x3 x4 x5 x6 x7 x8 x9 x10 x11 x12 x13 x14 x15 x16 x17 x18 x19 x20 x21 x22 x23 x24 x25 x26 x27 x28 x29) (View.ld x2 r1_1) (k1_pay27 x0 x1 x2 x3 x4 x5 x6 x7 x8 x9 x10 x11 x12 x13 x14 x15 x16 x17 x18 x19 x20 x21 x22 x23 x24 x25 x26 x27 x28 x29) (k1_pay28 x0 x1 x2 x3 x4 x5 x6 x7 x8 x9 x10 x11 x12 x13 x14 x15 x16 x17 x18 x19 x20 x21 x22 x23 x24 x25 x26 x27 x28 x29) (k1_pay29 x0 x1 x2 x3 x4 x5 x6 x7 x8 x9 x10 x11 x12 x13 x14 x15 x16 x17 x18 x19 x20 x21 x22 x23 x24 x25 x26 x27 x28 x29) (View.ld x3 r1_2) (View.ld x4 r1_2) (View.ld x5 r1_2) -- `v99`
def k1_pay32 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay11 (k1_pay30 x0 x1 x2 x3 x4 x5 x6 x7 x8 x9 x10 x11 x12 x13 x14 x15 x16 x17 x18 x19 x20 x21 x22 x23 x24 x25 x26 x27 x28 x29) (k1_pay31 x0 x1 x2 x3 x4 x5 x6 x7 x8 x9 x10 x11 x12 x13 x14 x15 x16 x17 x18 x19 x20 x21 x22 x23 x24 x25 x26 x27 x28 x29) (Scalar.ofBits .f32 0x3F3504F3#32) -- `v105`
def k1_pay33 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x256 .f32 :=
  k1_pay13 (k1_pay30 x0 x1 x2 x3 x4 x5 x6 x7 x8 x9 x10 x11 x12 x13 x14 x15 x16 x17 x18 x19 x20 x21 x22 x23 x24 x25 x26 x27 x28 x29) (k1_pay31 x0 x1 x2 x3 x4 x5 x6 x7 x8 x9 x10 x11 x12 x13 x14 x15 x16 x17 x18 x19 x20 x21 x22 x23 x24 x25 x26 x27 x28 x29) (Scalar.ofBits .f32 0x3F3504F3#32) (View.ld x6 r1_2) (View.ld x7 r1_2) (View.ld x8 r1_3) (View.ld x9 r1_4) -- `v139`
def k1_pay34 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x256 .f32 :=
  k1_pay14 (k1_pay30 x0 x1 x2 x3 x4 x5 x6 x7 x8 x9 x10 x11 x12 x13 x14 x15 x16 x17 x18 x19 x20 x21 x22 x23 x24 x25 x26 x27 x28 x29) (k1_pay31 x0 x1 x2 x3 x4 x5 x6 x7 x8 x9 x10 x11 x12 x13 x14 x15 x16 x17 x18 x19 x20 x21 x22 x23 x24 x25 x26 x27 x28 x29) (Scalar.ofBits .f32 0x3F3504F3#32) (View.ld x6 r1_2) (View.ld x7 r1_2) (View.ld x8 r1_3) (View.ld x9 r1_4) -- `v142`
def k1_pay35 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay15 (k1_pay32 x0 x1 x2 x3 x4 x5 x6 x7 x8 x9 x10 x11 x12 x13 x14 x15 x16 x17 x18 x19 x20 x21 x22 x23 x24 x25 x26 x27 x28 x29) (k1_pay33 x0 x1 x2 x3 x4 x5 x6 x7 x8 x9 x10 x11 x12 x13 x14 x15 x16 x17 x18 x19 x20 x21 x22 x23 x24 x25 x26 x27 x28 x29) (k1_pay34 x0 x1 x2 x3 x4 x5 x6 x7 x8 x9 x10 x11 x12 x13 x14 x15 x16 x17 x18 x19 x20 x21 x22 x23 x24 x25 x26 x27 x28 x29) (View.ld x10 r1_5) (View.ld x11 r1_2) -- `v152`
def k1_pay36 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x256 .f32 :=
  k1_pay16 (k1_pay32 x0 x1 x2 x3 x4 x5 x6 x7 x8 x9 x10 x11 x12 x13 x14 x15 x16 x17 x18 x19 x20 x21 x22 x23 x24 x25 x26 x27 x28 x29) (k1_pay33 x0 x1 x2 x3 x4 x5 x6 x7 x8 x9 x10 x11 x12 x13 x14 x15 x16 x17 x18 x19 x20 x21 x22 x23 x24 x25 x26 x27 x28 x29) (k1_pay34 x0 x1 x2 x3 x4 x5 x6 x7 x8 x9 x10 x11 x12 x13 x14 x15 x16 x17 x18 x19 x20 x21 x22 x23 x24 x25 x26 x27 x28 x29) (View.ld x10 r1_5) (View.ld x11 r1_2) (View.ld x12 r1_2) (View.ld x13 r1_2) (View.ld x14 r1_3) -- `v180`
def k1_pay37 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1x256 .f32 :=
  k1_pay17 (View.ld x15 r1_4) -- `v182`
def k1_pay38 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay18 (k1_pay35 x0 x1 x2 x3 x4 x5 x6 x7 x8 x9 x10 x11 x12 x13 x14 x15 x16 x17 x18 x19 x20 x21 x22 x23 x24 x25 x26 x27 x28 x29) (k1_pay36 x0 x1 x2 x3 x4 x5 x6 x7 x8 x9 x10 x11 x12 x13 x14 x15 x16 x17 x18 x19 x20 x21 x22 x23 x24 x25 x26 x27 x28 x29) (k1_pay37 x0 x1 x2 x3 x4 x5 x6 x7 x8 x9 x10 x11 x12 x13 x14 x15 x16 x17 x18 x19 x20 x21 x22 x23 x24 x25 x26 x27 x28 x29) (View.ld x16 r1_5) (View.ld x17 r1_2) -- `v199`
def k1_pay39 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : FVec F S1024x128 .f32 :=
  k1_pay19 (k1_pay35 x0 x1 x2 x3 x4 x5 x6 x7 x8 x9 x10 x11 x12 x13 x14 x15 x16 x17 x18 x19 x20 x21 x22 x23 x24 x25 x26 x27 x28 x29) (k1_pay36 x0 x1 x2 x3 x4 x5 x6 x7 x8 x9 x10 x11 x12 x13 x14 x15 x16 x17 x18 x19 x20 x21 x22 x23 x24 x25 x26 x27 x28 x29) (k1_pay37 x0 x1 x2 x3 x4 x5 x6 x7 x8 x9 x10 x11 x12 x13 x14 x15 x16 x17 x18 x19 x20 x21 x22 x23 x24 x25 x26 x27 x28 x29) (View.ld x16 r1_5) (View.ld x17 r1_2) (View.ld x18 r1_2) (View.ld x19 r1_2) -- `v225`

/-- Window 30's staging buffer after the body, from the input windows' blocks: its 1 store as pieces, LAST
    FIRST (Lib/Pipeline/FrameBody.lean `View.canon`; the payloads are the skeleton's and the values stated above). -/
def out1_30 (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) : Vec F S1024x128 .f32 :=
  View.canon [⟨r1_7, k1_pay1 (k1_pay21 (View.ld x24 r1_2)) (k1_pay22 (View.ld x25 r1_2)) (k1_pay24 (k1_pay38 x0 x1 x2 x3 x4 x5 x6 x7 x8 x9 x10 x11 x12 x13 x14 x15 x16 x17 x18 x19 x20 x21 x22 x23 x24 x25 x26 x27 x28 x29) (k1_pay39 x0 x1 x2 x3 x4 x5 x6 x7 x8 x9 x10 x11 x12 x13 x14 x15 x16 x17 x18 x19 x20 x21 x22 x23 x24 x25 x26 x27 x28 x29) (View.ld x20 r1_3) (View.ld x21 r1_4) (View.ld x22 r1_5) (View.ld x23 r1_2)) (k1_pay25 (k1_pay38 x0 x1 x2 x3 x4 x5 x6 x7 x8 x9 x10 x11 x12 x13 x14 x15 x16 x17 x18 x19 x20 x21 x22 x23 x24 x25 x26 x27 x28 x29) (k1_pay39 x0 x1 x2 x3 x4 x5 x6 x7 x8 x9 x10 x11 x12 x13 x14 x15 x16 x17 x18 x19 x20 x21 x22 x23 x24 x25 x26 x27 x28 x29) (View.ld x20 r1_3) (View.ld x21 r1_4) (View.ld x22 r1_5) (View.ld x23 r1_2)) (Scalar.ofBits .f32 0x3727C5AC#32) (View.ld x26 r1_6) (View.ld x27 r1_2) (View.ld x28 r1_6) (View.ld x29 r1_2)⟩]

/-- Its stores tile the buffer (checked by evaluation), so they cover it. -/
theorem cover1_30 (p0 : Vec F S1024x128 .f32) (y : S1024x128.Idx) :
    ∃ pc ∈ ([⟨r1_7, p0⟩] : List (View.Piece (Elt F) S1024x128 .f32)), y ∈ pc.1.set :=
  View.cover_of_tiled [⟨r1_7, p0⟩] S1024x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S8x128 .f32) (harg0 : arg0.IsWhole) (arg1 : Memref sig .tc .vmem S8x128 .f32) (harg1 : arg1.IsWhole) (arg2 : Memref sig .tc .vmem S6x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S256x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole) (arg26 : Memref sig .tc .vmem S128x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S1024x128 .f32) (harg30 : arg30.IsWhole)
    (x0 : Vec F S8x128 .f32) (x1 : Vec F S8x128 .f32) (x2 : Vec F S6x128 .f32) (x3 : Vec F S1x128 .f32) (x4 : Vec F S1x128 .f32) (x5 : Vec F S1x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (x14 : Vec F S128x256 .f32) (x15 : Vec F S1x256 .f32) (x16 : Vec F S256x128 .f32) (x17 : Vec F S1x128 .f32) (x18 : Vec F S1x128 .f32) (x19 : Vec F S1x128 .f32) (x20 : Vec F S128x256 .f32) (x21 : Vec F S1x256 .f32) (x22 : Vec F S256x128 .f32) (x23 : Vec F S1x128 .f32) (x24 : Vec F S1x128 .f32) (x25 : Vec F S1x128 .f32) (x26 : Vec F S128x128 .f32) (x27 : Vec F S1x128 .f32) (x28 : Vec F S128x128 .f32) (x29 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∃ d, owns (c : Thread nD τ) arg30 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare (out1_30 x0 x1 x2 x3 x4 x5 x6 x7 x8 x9 x10 x11 x12 x13 x14 x15 x16 x17 x18 x19 x20 x21 x22 x23 x24 x25 x26 x27 x28 x29)) -∗ K ⟨⟩))
      ⊢ wp frame (wpE (defs₀ (F := F)) Variants.none c none) E (cc1__mlp_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__mlp_kernel_eq_skeleton]; unfold cc1__mlp_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  iexists _; isplitr
  swap; · iexact H30
  ipureintro
  refine (View.read_writes_eq_canon _ _ _ (cover1_30 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => out1_30 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) (iblk1 V c 29 t)
    | ⟨_ + 31, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = iblk1 V c 28 t := by dsimp only [dat1]
theorem after1_29 (c : Dev nD) (t : Fin cfg1.N) : (dat1 V c).after 29 t = iblk1 V c 29 t := by dsimp only [dat1]
theorem after1_30 (c : Dev nD) (t : Fin cfg1.N) : (dat1 V c).after 30 t = out1_30 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) (iblk1 V c 29 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d
theorem before1_26 (c : Dev nD) (t : Fin cfg1.N) (d) : (dat1 V c).before 26 t d = iblk1 V c 26 t :=
  before1_26_of V (dat1 V c) (A_eq1 V c 26) (after1_26 V c) t d
theorem before1_27 (c : Dev nD) (t : Fin cfg1.N) (d) : (dat1 V c).before 27 t d = iblk1 V c 27 t :=
  before1_27_of V (dat1 V c) (A_eq1 V c 27) (after1_27 V c) t d
theorem before1_28 (c : Dev nD) (t : Fin cfg1.N) (d) : (dat1 V c).before 28 t d = iblk1 V c 28 t :=
  before1_28_of V (dat1 V c) (A_eq1 V c 28) (after1_28 V c) t d
theorem before1_29 (c : Dev nD) (t : Fin cfg1.N) (d) : (dat1 V c).before 29 t d = iblk1 V c 29 t :=
  before1_29_of V (dat1 V c) (A_eq1 V c 29) (after1_29 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d))
    ∗ (∃ d, owns (c : Thread nD τ) (st1_29 t) fullShare ((dat1 V c).before 29 t d))
    ∗ (∃ d, owns (c : Thread nD τ) (st1_30 t) fullShare ((dat1 V c).before 30 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t)
    ∗ owns (c : Thread nD τ) (st1_29 t) fullShare ((dat1 V c).after 29 t)
    ∗ owns (c : Thread nD τ) (st1_30 t) fullShare ((dat1 V c).after 30 t))

set_option maxHeartbeats 4000000 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel1 c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) (iblk1 V c 29 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunIdeal.lean ====
/- The idealized kernel's run: the buffer contents at every boundary of the launch, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.FrontIdeal
public import proofs.«01_k».proof.Proof.MlpIdeal

@[expose] public section

-- the arrays' long axes need deep recursion in the membership proofs of their rectangles
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7, main_v8, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v9]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v10]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_v11]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_v12]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v13, main_v14, main_v15, main_v16, main_v17, main_v18, main_v19, main_v20, main_v21, main_v22, main_v23, main_v24, main_v25, main_v26, main_v27, main_v28, main_v29, main_v30, main_v31]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v33, main_v34, main_v35, main_v36, main_v37, main_v38, main_v39, main_v40]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8` (region 1's entry). -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- The same read at the TensorCore's references (what region 1's proof data take). -/
abbrev V11 : (c : Dev nD) → (b : Ref sig .tc) → Buf (Elt F) ((c : Thread nD τ).loc b) := fun c b => W11 m ρ c b
/-- At region 1's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- A reference that is none of region 1's OUTPUT arrays keeps its entry contents across it: an input window's
    array is never written back (`Dat.arrAt_in`, `A_eq1`); any other buffer is left as is. -/
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After `hostOps2`. -/
abbrev W13 : Dev nD → Valuation τ sig (Elt F) := fun c => StableHlo.after hostOps2 (W12 m ρ c)
/-- A reference `hostOps2` does not write keeps its contents across it. -/
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a (hostOps2_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
theorem W13_main_arg16 (c : Dev nD) : W13 m ρ c (Proc.devRef .tc main_arg16) = m ((c : Thread nD τ).loc main_arg16) :=
  W13_args m ρ c main_arg16 (by decide)
theorem W13_main_arg17 (c : Dev nD) : W13 m ρ c (Proc.devRef .tc main_arg17) = m ((c : Thread nD τ).loc main_arg17) :=
  W13_args m ρ c main_arg17 (by decide)
theorem W13_main_arg18 (c : Dev nD) : W13 m ρ c (Proc.devRef .tc main_arg18) = m ((c : Thread nD τ).loc main_arg18) :=
  W13_args m ρ c main_arg18 (by decide)
theorem W13_main_arg19 (c : Dev nD) : W13 m ρ c (Proc.devRef .tc main_arg19) = m ((c : Thread nD τ).loc main_arg19) :=
  W13_args m ρ c main_arg19 (by decide)
theorem W13_main_arg20 (c : Dev nD) : W13 m ρ c (Proc.devRef .tc main_arg20) = m ((c : Thread nD τ).loc main_arg20) :=
  W13_args m ρ c main_arg20 (by decide)
theorem W13_main_arg21 (c : Dev nD) : W13 m ρ c (Proc.devRef .tc main_arg21) = m ((c : Thread nD τ).loc main_arg21) :=
  W13_args m ρ c main_arg21 (by decide)
theorem W13_main_arg22 (c : Dev nD) : W13 m ρ c (Proc.devRef .tc main_arg22) = m ((c : Thread nD τ).loc main_arg22) :=
  W13_args m ρ c main_arg22 (by decide)
theorem W13_main_arg23 (c : Dev nD) : W13 m ρ c (Proc.devRef .tc main_arg23) = m ((c : Thread nD τ).loc main_arg23) :=
  W13_args m ρ c main_arg23 (by decide)
theorem W13_main_arg24 (c : Dev nD) : W13 m ρ c (Proc.devRef .tc main_arg24) = m ((c : Thread nD τ).loc main_arg24) :=
  W13_args m ρ c main_arg24 (by decide)
theorem W13_main_arg25 (c : Dev nD) : W13 m ρ c (Proc.devRef .tc main_arg25) = m ((c : Thread nD τ).loc main_arg25) :=
  W13_args m ρ c main_arg25 (by decide)
theorem W13_main_arg26 (c : Dev nD) : W13 m ρ c (Proc.devRef .tc main_arg26) = m ((c : Thread nD τ).loc main_arg26) :=
  W13_args m ρ c main_arg26 (by decide)
theorem W13_main_arg27 (c : Dev nD) : W13 m ρ c (Proc.devRef .tc main_arg27) = m ((c : Thread nD τ).loc main_arg27) :=
  W13_args m ρ c main_arg27 (by decide)
theorem W13_main_arg28 (c : Dev nD) : W13 m ρ c (Proc.devRef .tc main_arg28) = m ((c : Thread nD τ).loc main_arg28) :=
  W13_args m ρ c main_arg28 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates,
    nothing faulting, and every final state holds each buffer outside the scopes at the last boundary's contents and every
    semaphore counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the last
    boundary's contents at each argument by `W13_<arg>`. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun s h => ⟨(fun c =>
      ⟨(h.1 c _ (mem_uc main_arg0 (by decide))).trans (W13_main_arg0 m ρ c),
       (h.1 c _ (mem_uc main_arg1 (by decide))).trans (W13_main_arg1 m ρ c),
       (h.1 c _ (mem_uc main_arg2 (by decide))).trans (W13_main_arg2 m ρ c),
       (h.1 c _ (mem_uc main_arg3 (by decide))).trans (W13_main_arg3 m ρ c),
       (h.1 c _ (mem_uc main_arg4 (by decide))).trans (W13_main_arg4 m ρ c),
       (h.1 c _ (mem_uc main_arg5 (by decide))).trans (W13_main_arg5 m ρ c),
       (h.1 c _ (mem_uc main_arg6 (by decide))).trans (W13_main_arg6 m ρ c),
       (h.1 c _ (mem_uc main_arg7 (by decide))).trans (W13_main_arg7 m ρ c),
       (h.1 c _ (mem_uc main_arg8 (by decide))).trans (W13_main_arg8 m ρ c),
       (h.1 c _ (mem_uc main_arg9 (by decide))).trans (W13_main_arg9 m ρ c),
       (h.1 c _ (mem_uc main_arg10 (by decide))).trans (W13_main_arg10 m ρ c),
       (h.1 c _ (mem_uc main_arg11 (by decide))).trans (W13_main_arg11 m ρ c),
       (h.1 c _ (mem_uc main_arg12 (by decide))).trans (W13_main_arg12 m ρ c),
       (h.1 c _ (mem_uc main_arg13 (by decide))).trans (W13_main_arg13 m ρ c),
       (h.1 c _ (mem_uc main_arg14 (by decide))).trans (W13_main_arg14 m ρ c),
       (h.1 c _ (mem_uc main_arg15 (by decide))).trans (W13_main_arg15 m ρ c),
       (h.1 c _ (mem_uc main_arg16 (by decide))).trans (W13_main_arg16 m ρ c),
       (h.1 c _ (mem_uc main_arg17 (by decide))).trans (W13_main_arg17 m ρ c),
       (h.1 c _ (mem_uc main_arg18 (by decide))).trans (W13_main_arg18 m ρ c),
       (h.1 c _ (mem_uc main_arg19 (by decide))).trans (W13_main_arg19 m ρ c),
       (h.1 c _ (mem_uc main_arg20 (by decide))).trans (W13_main_arg20 m ρ c),
       (h.1 c _ (mem_uc main_arg21 (by decide))).trans (W13_main_arg21 m ρ c),
       (h.1 c _ (mem_uc main_arg22 (by decide))).trans (W13_main_arg22 m ρ c),
       (h.1 c _ (mem_uc main_arg23 (by decide))).trans (W13_main_arg23 m ρ c),
       (h.1 c _ (mem_uc main_arg24 (by decide))).trans (W13_main_arg24 m ρ c),
       (h.1 c _ (mem_uc main_arg25 (by decide))).trans (W13_main_arg25 m ρ c),
       (h.1 c _ (mem_uc main_arg26 (by decide))).trans (W13_main_arg26 m ρ c),
       (h.1 c _ (mem_uc main_arg27 (by decide))).trans (W13_main_arg27 m ρ c),
       (h.1 c _ (mem_uc main_arg28 (by decide))).trans (W13_main_arg28 m ρ c)⟩), h.2⟩) (ends m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h => h.1) (frame m ρ)

end Cert.KernelIdeal.Gen

end
-- ==== Proof.Frames.lean ====
/- The claims that speak of no value: the three programs run, end with their arguments unchanged and every counter
   at zero, and the sign idiom of the idealization is the one the rule states. -/
module

public import proofs.«01_k».proof.Defs
public import proofs.«01_k».proof.Proof.Gen.Kernel
public import proofs.«01_k».proof.Proof.RunBits
public import proofs.«01_k».proof.Proof.Gen.KernelIdeal
public import proofs.«01_k».proof.Proof.RunIdeal
public import proofs.«01_k».proof.Proof.Gen.ReferenceIdeal
public import proofs.«01_k».proof.Proof.Gen.ReferenceIdeal.Run

@[expose] public section

noncomputable section

namespace Cert.Fronts

open Idealize.ShloMosaic Idealize.SL.Sem

/-- The printed kernel runs, leaves its arguments as they were and every counter at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the idealized reference: its run states the arguments, and it declares no semaphore. -/
theorem frame_referenceIdeal : Cert.quiescent_ReferenceIdeal := by
  intro m ρ _
  exact (θ_run Cert.ReferenceIdeal.defs _ _).mono (fun r h => ⟨fun c => (h c).2.2,
      sem_eq_zero_of_no_sems (by decide) r.2⟩) (Cert.ReferenceIdeal.Value.run (F := Ideal) m ρ)

/-- The one rewritten idiom keeps its meaning: the rule's statement at the shape and format it was used at. -/
theorem preserves : Cert.preserves_Kernel_KernelIdeal := IdealRules.sign_bit.statement Cert.KernelIdeal.S8x128 .f32

end Cert.Fronts

end
-- ==== Proof.Fold.lean ====
/- What the host operations around the two launches leave, read at an index. -/
module

public import proofs.«01_k».proof.Proof.Gen.KernelIdeal.Launch
public import Idealize.ShloMosaic.Lib.StableHlo.Run
public import Idealize.ShloMosaic.Lib.Pointwise
public import Idealize.ShloMosaic.Lib.Pipeline.ValueKit

@[expose] public section

set_option maxRecDepth 16384

noncomputable section

namespace Cert.Fronts.Ker

open Idealize.ShloMosaic Idealize.ShloMosaic.TcCoe Idealize.SL.Sem Idealize.ShloMosaic.StableHlo
open Cert.KernelIdeal Cert.KernelIdeal.Gen

/-- A padding on the right of each row, inside. -/
theorem pad9_at (x : FVec Ideal S128x64 .f32) (z : FVec Ideal S_ .f32) (i : Fin 128) (j : Fin 64) :
    (pad S128x128 ![0, 0] ![0, 64] ![0, 0] x z pads_S128x64_S128x128_000_0640 h_S_ (ix2 i (j.castLE (by decide : 64 ≤ 128))) : EReal) =
      x (ix2 i j) := by
  pointwise
  exact dif_pos j.isLt

/-- A padding on the right of a row of sixty-four, inside. -/
theorem pad10_at (x : FVec Ideal S64 .f32) (z : FVec Ideal S_ .f32) (j : Fin 64) :
    (pad S128 ![0] ![64] ![0] x z pads_S64_S128_0640 h_S_ (ix1 (j.castLE (by decide : 64 ≤ 128))) : EReal) = x (ix1 j) := by
  pointwise
  exact dif_pos j.isLt

/-- A padding below and on the right, inside. -/
theorem pad11_at (x : FVec Ideal S64x2 .f32) (z : FVec Ideal S_ .f32) (i : Fin 64) (j : Fin 2) :
    (pad S128x128 ![0, 0] ![64, 126] ![0, 0] x z pads_S64x2_S128x128_0640_01260 h_S_
      (ix2 (i.castLE (by decide : 64 ≤ 128)) (j.castLE (by decide : 2 ≤ 128))) : EReal) = x (ix2 i j) := by
  pointwise
  exact dif_pos ⟨i.isLt, j.isLt⟩

/-- The same padding below the rows padded. -/
theorem pad11_low (x : FVec Ideal S64x2 .f32) (z : FVec Ideal S_ .f32) (i j : Fin 128) (hi : 64 ≤ i.val) :
    (pad S128x128 ![0, 0] ![64, 126] ![0, 0] x z pads_S64x2_S128x128_0640_01260 h_S_ (ix2 i j) : EReal) = z ix0 := by
  pointwise
  rw [dif_neg fun h => absurd h.1 (by omega)]
  exact congrArg z (ValueIdx.eq_ix0 _)

/-- A padding on the right of a pair, inside. -/
theorem pad12_at (x : FVec Ideal S2 .f32) (z : FVec Ideal S_ .f32) (j : Fin 2) :
    (pad S128 ![0] ![126] ![0] x z pads_S2_S128_01260 h_S_ (ix1 (j.castLE (by decide : 2 ≤ 128))) : EReal) = x (ix1 j) := by
  pointwise
  exact dif_pos j.isLt

/-- The row of the network's array that belongs to front `k` of row `b`. -/
abbrev netRow (b : Fin 128) (k : Fin 8) : Fin 1024 := ⟨k.val * 128 + b.val, by omega⟩

/-- The network's two columns and the four rows of fronts, stacked. -/
theorem stack_at (x : FVec Ideal S1024x128 .f32) (y0 y1 y2 y3 : FVec Ideal S128x8 .f32) (b : Fin 128) (ch : Fin 6) (k : Fin 8) :
    (concatenate S128x6x8 1 [⟨S128x2x8, transpose S128x2x8 [1, 2, 0]
          (shapeCast S8x128x2 (extractStridedSlice S1024x2 ![0, 0] x slices_S1024x128_S1024x2_0_0) shapeCasts_S1024x2_S8x128x2)
          transposes_S8x128x2_S128x2x8_1_2_0⟩,
        ⟨S128x1x8, broadcastInDim S128x1x8 ![0, 2] bcast_S128x8_S128x1x8_0_2 y0⟩,
        ⟨S128x1x8, broadcastInDim S128x1x8 ![0, 2] bcast_S128x8_S128x1x8_0_2 y1⟩,
        ⟨S128x1x8, broadcastInDim S128x1x8 ![0, 2] bcast_S128x8_S128x1x8_0_2 y2⟩,
        ⟨S128x1x8, broadcastInDim S128x1x8 ![0, 2] bcast_S128x8_S128x1x8_0_2 y3⟩]
        concatenates_S128x2x8_S128x1x8_S128x1x8_S128x1x8_S128x1x8_S128x6x8_d1 (ix3 b ch k) : EReal) =
      match ch with
      | 0 => x (ix2 (netRow b k) 0)
      | 1 => x (ix2 (netRow b k) 1)
      | 2 => y0 (ix2 b k)
      | 3 => y1 (ix2 b k)
      | 4 => y2 (ix2 b k)
      | 5 => y3 (ix2 b k) := by
  pointwise
  fin_vals ch with hc
  all_goals simp only [hc, Nat.reduceSub, Nat.reduceLT, ↓reduceDIte]
  · obtain rfl : ch = 0 := Fin.ext hc
    rfl
  · obtain rfl : ch = 1 := Fin.ext hc
    rfl
  · obtain rfl : ch = 2 := Fin.ext hc
    rfl
  · obtain rfl : ch = 3 := Fin.ext hc
    rfl
  · obtain rfl : ch = 4 := Fin.ext hc
    rfl
  · obtain rfl : ch = 5 := Fin.ext hc
    rfl

variable (V : Valuation τ sig (Elt Ideal))

/-- The densities. -/
theorem v1_at (b : Fin 128) (l : Fin 8192) :
    (after (hostOps0 (F := Ideal)) V (Proc.devRef .tc main_v1) (ix2 b l) : EReal) = V (Proc.devRef .tc main_arg0) (ix3 b 0 l) := by
  after_results_simp
  pointwise

/-- The coordinates. -/
theorem v3_at (b : Fin 128) (l : Fin 8192) :
    (after (hostOps0 (F := Ideal)) V (Proc.devRef .tc main_v3) (ix2 b l) : EReal) = V (Proc.devRef .tc main_arg0) (ix3 b 1 l) := by
  after_results_simp
  pointwise

/-- The second result: the first column of the counts. -/
theorem v6_at (b : Fin 128) :
    (after (hostOps1 (F := Ideal)) V (Proc.devRef .tc main_v6) (ix1 b) : BitVec 32) = V (Proc.devRef .tc main_v4_4) (ix2 b 0) := by
  after_results_simp
  pointwise

/-- The values left of the fronts, round by row. -/
theorem v7_at (k : Fin 8) (b : Fin 128) :
    (after (hostOps1 (F := Ideal)) V (Proc.devRef .tc main_v7) (ix2 k b) : EReal) = V (Proc.devRef .tc main_v4_0) (ix2 b k) := by
  after_results_simp
  pointwise

/-- The values right of the fronts, round by row. -/
theorem v8_at (k : Fin 8) (b : Fin 128) :
    (after (hostOps1 (F := Ideal)) V (Proc.devRef .tc main_v8) (ix2 k b) : EReal) = V (Proc.devRef .tc main_v4_1) (ix2 b k) := by
  after_results_simp
  pointwise

/-- The word the first padding converts is zero. -/
theorem c_eq : after (hostOps1 (F := Ideal)) V (Proc.devRef .tc main_c) = constantI S_ 32 0#32 := by
  after_results_simp

/-- The word the second padding converts is zero. -/
theorem c_0_eq : after (hostOps1_2 (F := Ideal)) V (Proc.devRef .tc main_c_0) = constantI S_ 32 0#32 := by
  after_results_simp

/-- The word the third padding converts is zero. -/
theorem c_1_eq : after (hostOps1_4 (F := Ideal)) V (Proc.devRef .tc main_c_1) = constantI S_ 32 0#32 := by
  after_results_simp

/-- The word the fourth padding converts is zero. -/
theorem c_2_eq : after (hostOps1_6 (F := Ideal)) V (Proc.devRef .tc main_c_2) = constantI S_ 32 0#32 := by
  after_results_simp

/-- The head's first weights fill the left columns of their padding. -/
theorem v9_at (i : Fin 128) (j : Fin 64) :
    (after (hostOps1_1 (F := Ideal)) V (Proc.devRef .tc main_v9) (ix2 i (j.castLE (by decide : 64 ≤ 128))) : EReal) = V (Proc.devRef .tc main_arg25) (ix2 i j) := by
  after_results_simp
  exact pad9_at _ _ i j

/-- The head's first bias fills the left of its padding. -/
theorem v10_at (j : Fin 64) :
    (after (hostOps1_3 (F := Ideal)) V (Proc.devRef .tc main_v10) (ix1 (j.castLE (by decide : 64 ≤ 128))) : EReal) = V (Proc.devRef .tc main_arg26) (ix1 j) := by
  after_results_simp
  exact pad10_at _ _ j

/-- The head's second weights fill the upper left of their padding. -/
theorem v11_at (i : Fin 64) (j : Fin 2) :
    (after (hostOps1_5 (F := Ideal)) V (Proc.devRef .tc main_v11) (ix2 (i.castLE (by decide : 64 ≤ 128)) (j.castLE (by decide : 2 ≤ 128))) : EReal) = V (Proc.devRef .tc main_arg27) (ix2 i j) := by
  after_results_simp
  exact pad11_at _ _ i j

/-- The head's second bias fills the left of its padding. -/
theorem v12_at (j : Fin 2) :
    (after (hostOps1_7 (F := Ideal)) V (Proc.devRef .tc main_v12) (ix1 (j.castLE (by decide : 2 ≤ 128))) : EReal) = V (Proc.devRef .tc main_arg28) (ix1 j) := by
  after_results_simp
  exact pad12_at _ _ j

/-- Below its sixty-four rows the head's second weights are padded by the converted word. -/
theorem v11_low (i j : Fin 128) (hi : 64 ≤ i.val) :
    (after (hostOps1_5 (F := Ideal)) V (Proc.devRef .tc main_v11) (ix2 i j) : EReal) =
      (FloatOps.sitofp (F := Ideal) .f32 (V (Proc.devRef .tc main_c_1) ix0 : BitVec 32) : EReal) := by
  after_results_simp
  exact pad11_low _ _ i j hi

/-- Argument 2 as a row. -/
theorem v13_at (j : Fin 128) :
    (after (hostOps1_8 (F := Ideal)) V (Proc.devRef .tc main_v13) (ix2 (0 : Fin 1) j) : EReal) = V (Proc.devRef .tc main_arg2) (ix1 j) := by
  after_results_simp
  pointwise

/-- Argument 3 as a row. -/
theorem v14_at (j : Fin 128) :
    (after (hostOps1_8 (F := Ideal)) V (Proc.devRef .tc main_v14) (ix2 (0 : Fin 1) j) : EReal) = V (Proc.devRef .tc main_arg3) (ix1 j) := by
  after_results_simp
  pointwise

/-- Argument 4 as a row. -/
theorem v15_at (j : Fin 128) :
    (after (hostOps1_8 (F := Ideal)) V (Proc.devRef .tc main_v15) (ix2 (0 : Fin 1) j) : EReal) = V (Proc.devRef .tc main_arg4) (ix1 j) := by
  after_results_simp
  pointwise

/-- Argument 5 as a row. -/
theorem v16_at (j : Fin 128) :
    (after (hostOps1_8 (F := Ideal)) V (Proc.devRef .tc main_v16) (ix2 (0 : Fin 1) j) : EReal) = V (Proc.devRef .tc main_arg5) (ix1 j) := by
  after_results_simp
  pointwise

/-- Argument 6 as a row. -/
theorem v17_at (j : Fin 128) :
    (after (hostOps1_8 (F := Ideal)) V (Proc.devRef .tc main_v17) (ix2 (0 : Fin 1) j) : EReal) = V (Proc.devRef .tc main_arg6) (ix1 j) := by
  after_results_simp
  pointwise

/-- Argument 8 as a row. -/
theorem v18_at (j : Fin 256) :
    (after (hostOps1_8 (F := Ideal)) V (Proc.devRef .tc main_v18) (ix2 (0 : Fin 1) j) : EReal) = V (Proc.devRef .tc main_arg8) (ix1 j) := by
  after_results_simp
  pointwise

/-- Argument 10 as a row. -/
theorem v19_at (j : Fin 128) :
    (after (hostOps1_8 (F := Ideal)) V (Proc.devRef .tc main_v19) (ix2 (0 : Fin 1) j) : EReal) = V (Proc.devRef .tc main_arg10) (ix1 j) := by
  after_results_simp
  pointwise

/-- Argument 11 as a row. -/
theorem v20_at (j : Fin 128) :
    (after (hostOps1_8 (F := Ideal)) V (Proc.devRef .tc main_v20) (ix2 (0 : Fin 1) j) : EReal) = V (Proc.devRef .tc main_arg11) (ix1 j) := by
  after_results_simp
  pointwise

/-- Argument 12 as a row. -/
theorem v21_at (j : Fin 128) :
    (after (hostOps1_8 (F := Ideal)) V (Proc.devRef .tc main_v21) (ix2 (0 : Fin 1) j) : EReal) = V (Proc.devRef .tc main_arg12) (ix1 j) := by
  after_results_simp
  pointwise

/-- Argument 14 as a row. -/
theorem v22_at (j : Fin 256) :
    (after (hostOps1_8 (F := Ideal)) V (Proc.devRef .tc main_v22) (ix2 (0 : Fin 1) j) : EReal) = V (Proc.devRef .tc main_arg14) (ix1 j) := by
  after_results_simp
  pointwise

/-- Argument 16 as a row. -/
theorem v23_at (j : Fin 128) :
    (after (hostOps1_8 (F := Ideal)) V (Proc.devRef .tc main_v23) (ix2 (0 : Fin 1) j) : EReal) = V (Proc.devRef .tc main_arg16) (ix1 j) := by
  after_results_simp
  pointwise

/-- Argument 17 as a row. -/
theorem v24_at (j : Fin 128) :
    (after (hostOps1_8 (F := Ideal)) V (Proc.devRef .tc main_v24) (ix2 (0 : Fin 1) j) : EReal) = V (Proc.devRef .tc main_arg17) (ix1 j) := by
  after_results_simp
  pointwise

/-- Argument 18 as a row. -/
theorem v25_at (j : Fin 128) :
    (after (hostOps1_8 (F := Ideal)) V (Proc.devRef .tc main_v25) (ix2 (0 : Fin 1) j) : EReal) = V (Proc.devRef .tc main_arg18) (ix1 j) := by
  after_results_simp
  pointwise

/-- Argument 20 as a row. -/
theorem v26_at (j : Fin 256) :
    (after (hostOps1_8 (F := Ideal)) V (Proc.devRef .tc main_v26) (ix2 (0 : Fin 1) j) : EReal) = V (Proc.devRef .tc main_arg20) (ix1 j) := by
  after_results_simp
  pointwise

/-- Argument 22 as a row. -/
theorem v27_at (j : Fin 128) :
    (after (hostOps1_8 (F := Ideal)) V (Proc.devRef .tc main_v27) (ix2 (0 : Fin 1) j) : EReal) = V (Proc.devRef .tc main_arg22) (ix1 j) := by
  after_results_simp
  pointwise

/-- Argument 23 as a row. -/
theorem v28_at (j : Fin 128) :
    (after (hostOps1_8 (F := Ideal)) V (Proc.devRef .tc main_v28) (ix2 (0 : Fin 1) j) : EReal) = V (Proc.devRef .tc main_arg23) (ix1 j) := by
  after_results_simp
  pointwise

/-- Argument 24 as a row. -/
theorem v29_at (j : Fin 128) :
    (after (hostOps1_8 (F := Ideal)) V (Proc.devRef .tc main_v29) (ix2 (0 : Fin 1) j) : EReal) = V (Proc.devRef .tc main_arg24) (ix1 j) := by
  after_results_simp
  pointwise

/-- The padded first bias as a row. -/
theorem v30_at (j : Fin 128) :
    (after (hostOps1_8 (F := Ideal)) V (Proc.devRef .tc main_v30) (ix2 (0 : Fin 1) j) : EReal) = V (Proc.devRef .tc main_v10) (ix1 j) := by
  after_results_simp
  pointwise

/-- The padded second bias as a row. -/
theorem v31_at (j : Fin 128) :
    (after (hostOps1_8 (F := Ideal)) V (Proc.devRef .tc main_v31) (ix2 (0 : Fin 1) j) : EReal) = V (Proc.devRef .tc main_v12) (ix1 j) := by
  after_results_simp
  pointwise

/-- The first result: the network's two columns and the four rows of fronts, stacked. -/
theorem v40_at (b : Fin 128) (ch : Fin 6) (k : Fin 8) :
    (after (hostOps2 (F := Ideal)) V (Proc.devRef .tc main_v40) (ix3 b ch k) : EReal) =
      match ch with
      | 0 => V (Proc.devRef .tc main_v32) (ix2 (netRow b k) 0)
      | 1 => V (Proc.devRef .tc main_v32) (ix2 (netRow b k) 1)
      | 2 => V (Proc.devRef .tc main_v4_0) (ix2 b k)
      | 3 => V (Proc.devRef .tc main_v4_1) (ix2 b k)
      | 4 => V (Proc.devRef .tc main_v4_2) (ix2 b k)
      | 5 => V (Proc.devRef .tc main_v4_3) (ix2 b k) := by
  after_results_simp
  try dsimp only [Matrix.cons_val]
  try after_results_simp
  exact stack_at _ _ _ _ _ b ch k

end Cert.Fronts.Ker

end
-- ==== Proof.Picks.lean ====
/- The repeated selection of the least entry, as mathematics: a row of scores, the first position of its least entry,
   the row with that position raised to the top, and so on. While at least K entries are below the top, the first K
   selections are the first K positions of the stable sort by score (`sortedFrom_eq_pickAt`). -/
module

public import Idealize.ShloMosaic.Lib.SortPrefix
public import Mathlib.Data.EReal.Operations

@[expose] public section

noncomputable section

namespace Cert.Fronts

open Idealize.ShloMosaic

variable {n : Nat}

/-- A row with at least one position has a first position of its least entry. -/
theorem exists_first_least (s : Fin (n + 1) → EReal) :
    ∃ i, (∀ j, s i ≤ s j) ∧ ∀ j, s j = s i → i ≤ j := by
  obtain ⟨a, -, ha'⟩ := Finset.univ.exists_min_image s ⟨0, Finset.mem_univ _⟩
  have ha : ∀ j, s a ≤ s j := fun j => ha' j (Finset.mem_univ j)
  obtain ⟨i, hi, hmin⟩ := (Finset.univ.filter fun j => s j = s a).exists_min_image id ⟨a, by simp⟩
  simp only [Finset.mem_filter, Finset.mem_univ, true_and, id] at hi hmin
  exact ⟨i, fun j => hi ▸ ha j, fun j hj => hmin j (hj.trans hi)⟩

/-- The first position of the least entry. -/
def pick (s : Fin (n + 1) → EReal) : Fin (n + 1) := Classical.choose (exists_first_least s)

/-- No entry is below the picked one. -/
theorem pick_le (s : Fin (n + 1) → EReal) (j : Fin (n + 1)) : s (pick s) ≤ s j :=
  (Classical.choose_spec (exists_first_least s)).1 j

/-- No earlier position has the picked entry. -/
theorem pick_first (s : Fin (n + 1) → EReal) (j : Fin (n + 1)) (h : s j = s (pick s)) : pick s ≤ j :=
  (Classical.choose_spec (exists_first_least s)).2 j h

/-- The row after `k` selections: each selected position raised to the top. -/
def rest (s : Fin (n + 1) → EReal) : Nat → Fin (n + 1) → EReal
  | 0 => s
  | k + 1 => fun j => if j = pick (rest s k) then ⊤ else rest s k j

/-- The position selected in round `k`. -/
def pickAt (s : Fin (n + 1) → EReal) (k : Nat) : Fin (n + 1) := pick (rest s k)

/-- The row after one more selection. -/
theorem rest_succ (s : Fin (n + 1) → EReal) (k : Nat) :
    rest s (k + 1) = fun j => if j = pickAt s k then ⊤ else rest s k j := rfl

/-- After `k` rounds an entry is the top when its position was selected, and what it was otherwise. -/
theorem rest_eq (s : Fin (n + 1) → EReal) (k : Nat) (j : Fin (n + 1)) :
    rest s k j = if ∃ i, i < k ∧ pickAt s i = j then ⊤ else s j := by
  induction k with
  | zero => simp [rest]
  | succ k ih =>
    rw [rest_succ]; dsimp only
    by_cases h : j = pickAt s k
    · rw [if_pos h, if_pos ⟨k, Nat.lt_succ_self k, h.symm⟩]
    · simp only [if_neg h, ih]
      refine if_congr ⟨fun ⟨i, hi, e⟩ => ⟨i, Nat.lt_succ_of_lt hi, e⟩, fun ⟨i, hi, e⟩ => ?_⟩ rfl rfl
      refine ⟨i, lt_of_le_of_ne (Nat.le_of_lt_succ hi) fun e' => ?_, e⟩
      subst e'; exact h e.symm

/-- An entry whose position was not selected is what it was. -/
theorem rest_of_not (s : Fin (n + 1) → EReal) (k : Nat) (j : Fin (n + 1)) (h : ∀ i, i < k → pickAt s i ≠ j) :
    rest s k j = s j := by
  rw [rest_eq, if_neg]; rintro ⟨i, hi, e⟩; exact h i hi e

variable {K : Nat} (s : Fin (n + 1) → EReal) (hcount : K ≤ (Finset.univ.filter fun i => s i < ⊤).card)

include hcount in
/-- While fewer than `K` rounds have run, the selected entry is below the top. -/
theorem rest_pickAt_lt_top (k : Nat) (hk : k < K) : rest s k (pickAt s k) < ⊤ := by
  classical
  by_contra hcon
  have htop : ∀ j, rest s k j = ⊤ := fun j => by
    have := pick_le (rest s k) j
    exact top_le_iff.mp ((not_lt_top_iff.mp hcon) ▸ this)
  have hsub : (Finset.univ.filter fun i => s i < ⊤) ⊆ (Finset.range k).image (pickAt s) := by
    intro j hj
    simp only [Finset.mem_filter, Finset.mem_univ, true_and] at hj
    by_contra hno
    have : rest s k j = s j := rest_of_not s k j fun i hi e => hno (Finset.mem_image.mpr ⟨i, Finset.mem_range.mpr hi, e⟩)
    rw [htop j] at this
    exact absurd this.symm (ne_of_lt hj)
  have := (Finset.card_le_card hsub).trans Finset.card_image_le
  rw [Finset.card_range] at this
  omega

include hcount in
/-- A selected position was not selected before. -/
theorem pickAt_fresh (k : Nat) (hk : k < K) : ∀ i, i < k → pickAt s i ≠ pickAt s k := by
  intro i hi e
  have h := rest_pickAt_lt_top s hcount k hk
  rw [rest_eq, if_pos ⟨i, hi, e⟩] at h
  exact lt_irrefl _ h

include hcount in
/-- Before it is selected, its entry is the row's own. -/
theorem rest_pickAt (k : Nat) (hk : k < K) : rest s k (pickAt s k) = s (pickAt s k) :=
  rest_of_not s k _ (pickAt_fresh s hcount k hk)

include hcount in
/-- The row's entry at a selected position is below the top. -/
theorem pickAt_lt_top (k : Nat) (hk : k < K) : s (pickAt s k) < ⊤ := by
  rw [← rest_pickAt s hcount k hk]; exact rest_pickAt_lt_top s hcount k hk

include hcount in
/-- A position not selected before round `k` does not come before the one selected there: its entry is not less, and
    where the two are equal its position is not earlier. -/
theorem pickAt_before (k : Nat) (hk : k < K) (p : Fin (n + 1)) (hp : ∀ i, i < k → pickAt s i ≠ p) :
    s (pickAt s k) ≤ s p ∧ (s p = s (pickAt s k) → pickAt s k ≤ p) := by
  have e := rest_of_not s k p hp
  have e' := rest_pickAt s hcount k hk
  refine ⟨?_, fun h => ?_⟩
  · rw [← e, ← e']; exact pick_le _ _
  · exact pick_first (rest s k) p (by rw [e, h]; exact e'.symm)

/-- Two relations that agree on every pair "later position, earlier position" sort the positions alike: an insertion
    sort compares a position only with later ones, the later one on the left. -/
theorem sortedFrom_congr_later {m : Nat} (R R' : Fin m → Fin m → Bool) (h : ∀ a b, a < b → R b a = R' b a) :
    sortedFrom R = sortedFrom R' := by
  have key : ∀ l : List (Fin m), l.Pairwise (· < ·) → stableSort R l = stableSort R' l := by
    intro l hl
    induction l with
    | nil => rfl
    | cons a l ih =>
      rw [List.pairwise_cons] at hl
      unfold stableSort
      rw [ih hl.2]
      exact insertBefore_congr R R' a _ fun b hb => h a b (hl.1 b ((perm_stableSort R' l).mem_iff.mp hb))
  have e : sortPositions m R = sortPositions m R' := key _ (List.sortedLT_finRange m).pairwise
  funext k
  simp only [sortedFrom, List.get_eq_getElem, Fin.val_cast, e]

include hcount in
/-- THE FIRST `K` OF THE STABLE SORT. The row's last entry is the top and at least `K` entries are below it; the sort
    runs over the positions but the last, `R p q` saying that the entry at `p` is less than the one at `q`. Its `i`-th
    position is the one selected in round `i`. -/
theorem sortedFrom_eq_pickAt (hlast : s (Fin.last n) = ⊤) (hK : K ≤ n) (R : Fin n → Fin n → Bool)
    (hR : ∀ p q, R p q = true ↔ s p.castSucc < s q.castSucc) (i : Fin K) :
    ((sortedFrom R (i.castLE hK)).castSucc : Fin (n + 1)) = pickAt s i.val := by
  have hne : ∀ k : Fin K, pickAt s k.val ≠ Fin.last n := fun k e => by
    have := pickAt_lt_top s hcount k.val k.isLt
    rw [e, hlast] at this; exact lt_irrefl _ this
  let σ : Fin K → Fin n := fun k => (pickAt s k.val).castPred (hne k)
  have hσ : ∀ k, (σ k).castSucc = pickAt s k.val := fun k => Fin.castSucc_castPred _ _
  let key : Fin n → EReal := fun p => s p.castSucc
  let B : Fin n → Fin n → Bool := fun p q => decide (key p < key q) || (decide (key p = key q) && decide (p < q))
  have hB : StrictTotalBefore B :=
    StrictTotalBefore.of_key_then_position (fun a b : EReal => decide (a < b)) key (fun a => by simp)
      (fun a b c hab hbc => by simp only [decide_eq_true_eq] at *; exact hab.trans hbc)
      (fun a b => by simp only [decide_eq_true_eq]; exact lt_trichotomy a b)
  have hRB : sortedFrom R = sortedFrom B := sortedFrom_congr_later R B fun a b hab => by
    rw [Bool.eq_iff_iff, hR]
    simp only [B, key, Bool.or_eq_true, Bool.and_eq_true, decide_eq_true_eq]
    exact ⟨Or.inl, fun h => h.elim id fun h => absurd h.2 (not_lt.mpr hab.le)⟩
  have hBf : ∀ (k : Fin K) (p : Fin n), (∀ j, j < k.val → pickAt s j ≠ p.castSucc) → B p (σ k) = false := by
    intro k p hp
    obtain ⟨h1, h2⟩ := pickAt_before s hcount k.val k.isLt p.castSucc hp
    rw [Bool.eq_false_iff]
    simp only [B, key, ne_eq, Bool.or_eq_true, Bool.and_eq_true, decide_eq_true_eq, hσ, not_or, not_and, not_lt]
    refine ⟨h1, fun e => ?_⟩
    have h3 := h2 e
    rw [← hσ k] at h3
    exact h3
  have hinj : Function.Injective σ := by
    intro a b e
    have e' : pickAt s a.val = pickAt s b.val := by rw [← hσ a, ← hσ b, e]
    rcases lt_trichotomy a.val b.val with h | h | h
    · exact absurd e' (pickAt_fresh s hcount b.val b.isLt a.val h)
    · exact Fin.ext h
    · exact absurd e'.symm (pickAt_fresh s hcount a.val a.isLt b.val h)
  rw [hRB, hB.sortedFrom_eq_of_prefix hK σ hinj
    (fun a b hab => hBf a (σ b) fun j hj => by
      rw [hσ b]; exact pickAt_fresh s hcount b.val b.isLt j (hj.trans hab))
    (fun a p hp => hBf a p fun j hj e => hp ⟨j, hj.trans a.isLt⟩ (Fin.castSucc_injective n (by rw [hσ]; exact e))) i, hσ]

/-- A sum whose only nonzero term is at the picked position. -/
theorem sum_at {m : Nat} (p : Fin m) (f : Fin m → EReal) : (∑ l, if l = p then f l else 0) = f p := by
  rw [Finset.sum_ite_eq' Finset.univ p f, if_pos (Finset.mem_univ p)]

end Cert.Fronts

end
-- ==== Proof.FrontRow.lean ====
/- One row of the front finder, as mathematics: at position `l` of a row the value and its right neighbour, whether the
   two differ by more than the threshold, the coordinate half-way between, and the score a selection goes by. Then the
   two ways the kernel computes the first position of the least score: a fold by `min`, and a fold of lane numbers by
   the signed minimum. -/
module

public import proofs.«01_k».proof.Proof.Picks
public import Idealize.ShloMosaic.Lib.WordArith
public import Idealize.ShloMosaic.Lib.IndicatorCount
public import Idealize.ShloMosaic.PureOps.Ideal

@[expose] public section

set_option maxRecDepth 16384

noncomputable section

namespace Cert.Fronts

open Idealize.ShloMosaic

/-- The right neighbour of a row's entry (of the last one, the row's first). -/
def nxt (f : Fin 8192 → EReal) (l : Fin 8192) : EReal := if h : l.val < 8191 then f ⟨l.val + 1, by omega⟩ else f 0

/-- The right neighbour, read off the row followed by its first entry. -/
theorem nxt_eq (f : Fin 8192 → EReal) (l : Fin 8192) :
    (if h : l.val < 8191 then f ⟨1 + l.val, by omega⟩ else f ⟨l.val - 8191, by omega⟩) = nxt f l := by
  have := l.isLt
  unfold nxt
  split
  · exact congrArg f (Fin.ext (Nat.add_comm _ _))
  · exact congrArg f (Fin.ext (show l.val - 8191 = 0 by omega))

/-- The threshold a jump must exceed. -/
abbrev thr : EReal := Ideal.ofBits .f32 0x358637BD#32

/-- A front: the entry and its right neighbour differ by more than the threshold, and the entry is not the last. -/
abbrev IsFront (d : Fin 8192 → EReal) (l : Fin 8192) : Prop :=
  thr < max (d l - nxt d l) (-(d l - nxt d l)) ∧ l.val < 8191

/-- Half of the sum of a coordinate and its right neighbour. -/
def mid (c : Fin 8192 → EReal) (l : Fin 8192) : EReal := (c l + nxt c l) * Ideal.ofBits .f32 0x3F000000#32

/-- The score: the half-way coordinate at a front, the top elsewhere. -/
def score (d c : Fin 8192 → EReal) (l : Fin 8192) : EReal := if IsFront d l then mid c l else ⊤

/-- The number of fronts of a row, as a 32-bit word. -/
def frontCount (d : Fin 8192 → EReal) : BitVec 32 := BitVec.ofNat 32 (Finset.univ.filter fun l => IsFront d l).card

/-- The word of positive infinity is the top. -/
theorem inf_eq : Ideal.ofBits .f32 0x7F800000#32 = (⊤ : EReal) := by simp [Ideal.ofBits, Ideal.ieee]

/-- The last position has no front: its score is the top. -/
theorem score_last (d c : Fin 8192 → EReal) : score d c (Fin.last 8191) = ⊤ :=
  if_neg fun h => absurd h.2 (by simp)

/-- A score below the top is at a front. -/
theorem isFront_of_lt (d c : Fin 8192 → EReal) (l : Fin 8192) (h : score d c l < ⊤) : IsFront d l := by
  by_contra hn
  rw [score, if_neg hn] at h
  exact lt_irrefl _ h

/-- The fold of a row by `min` from the top is the picked entry. -/
theorem fold_min_eq {n : Nat} (s : Fin (n + 1) → EReal) : Finset.univ.fold min ⊤ s = s (pick s) :=
  le_antisymm ((Finset.fold_min_le _).mpr (Or.inr ⟨pick s, Finset.mem_univ _, le_rfl⟩))
    ((Finset.le_fold_min _).mpr ⟨le_top, fun x _ => pick_le s x⟩)

/-- A fold by the signed minimum over words below 2³¹, as natural numbers. -/
theorem fold_minsi_toNat {ι : Type} (S : Finset ι) (b : BitVec 32) (f : ι → BitVec 32) (hb : b.toNat < 2 ^ 31)
    (hf : ∀ x, (f x).toNat < 2 ^ 31) :
    (S.fold IntOp.minsi b f).toNat = S.fold min b.toNat (fun x => (f x).toNat) := by
  classical
  induction S using Finset.induction_on with
  | empty => rfl
  | insert a S ha ih =>
    rw [Finset.fold_insert ha, Finset.fold_insert ha, ← ih, WordArith.toNat_minsi_of_lt _ _ (hf a)]
    rw [ih]
    exact lt_of_le_of_lt ((Finset.fold_min_le _).mpr (Or.inl le_rfl)) hb

/-- The least lane whose entry is the row's least: the fold, by the signed minimum, of the lane number where the entry
    is the least and of 8192 elsewhere, is the picked position. -/
theorem fold_lane_eq (s : Fin 8192 → EReal) (m : EReal) (hm : m = s (pick s)) :
    Finset.univ.fold IntOp.minsi 2147483647#32 (fun x => if s x = m then BitVec.ofNat 32 x.val else 8192#32)
      = BitVec.ofNat 32 (pick s).val := by
  subst hm
  have e : ∀ x : Fin 8192, (if s x = s (pick s) then BitVec.ofNat 32 x.val else 8192#32).toNat
      = if s x = s (pick s) then x.val else 8192 := fun x => by
    have := x.isLt
    split
    · rw [BitVec.toNat_ofNat]; omega
    · rfl
  refine BitVec.eq_of_toNat_eq ?_
  rw [fold_minsi_toNat _ _ _ (by decide) fun x => by rw [e]; have := x.isLt; split <;> omega]
  simp only [e]
  have hp := (pick s).isLt
  have hpn : (BitVec.ofNat 32 (pick s).val).toNat = (pick s).val := by
    rw [BitVec.toNat_ofNat, Nat.mod_eq_of_lt (by omega)]
  rw [hpn]
  refine le_antisymm ((Finset.fold_min_le _).mpr (Or.inr ⟨pick s, Finset.mem_univ _, by rw [if_pos rfl]⟩))
    ((Finset.le_fold_min _).mpr ⟨by show _ ≤ 2147483647; omega, fun x _ => ?_⟩)
  split
  · next h => exact pick_first s x h
  · omega

/-- Comparing a lane number with the picked one: the bit of "this lane is the picked one". -/
theorem lane_bit (l p : Fin 8192) :
    IntOp.cmpi .eq (BitVec.ofNat 32 l.val) (BitVec.ofNat 32 p.val) = if l = p then 1#1 else 0#1 := by
  have hl := l.isLt
  have hp := p.isLt
  by_cases h : l = p
  · subst h; simp [IntOp.cmpi]
  · rw [if_neg h]
    have : BitVec.ofNat 32 l.val ≠ BitVec.ofNat 32 p.val := fun e => h (Fin.ext (by
      have := congrArg BitVec.toNat e
      rw [BitVec.toNat_ofNat, BitVec.toNat_ofNat, Nat.mod_eq_of_lt (by omega), Nat.mod_eq_of_lt (by omega)] at this
      exact this))
    have hb : (BitVec.ofNat 32 l.val == BitVec.ofNat 32 p.val) = false := beq_eq_false_iff_ne.mpr this
    simp [IntOp.cmpi, hb]

/-- The bit of a front: the jump's comparison, and the lane number below 8191. -/
theorem front_bit (d : Fin 8192 → EReal) (l : Fin 8192) :
    IntOp.andi (BitVec.ofBool (decide (thr < max (d l - nxt d l) (-(d l - nxt d l)))))
      (IntOp.cmpi .slt (BitVec.ofNat 32 l.val) 8191#32) = if IsFront d l then 1#1 else 0#1 := by
  have hl := l.isLt
  have hn : (BitVec.ofNat 32 l.val).toNat = l.val := by rw [BitVec.toNat_ofNat, Nat.mod_eq_of_lt (by omega)]
  have hslt : (BitVec.ofNat 32 l.val).slt 8191#32 = decide (l.val < 8191) := by
    rw [Bool.eq_iff_iff, BitVec.slt_iff_toInt_lt, decide_eq_true_iff, BitVec.toInt_eq_toNat_cond, hn,
      if_pos (by omega), show (8191#32 : BitVec 32).toInt = 8191 by decide]
    omega
  have e : IntOp.cmpi .slt (BitVec.ofNat 32 l.val) 8191#32 = BitVec.ofBool (decide (l.val < 8191)) :=
    congrArg BitVec.ofBool hslt
  rw [e]
  by_cases h1 : thr < max (d l - nxt d l) (-(d l - nxt d l)) <;> by_cases h2 : l.val < 8191 <;>
    simp [IsFront, h1, h2, IntOp.andi]

/-- The word of a true comparison, as a number. -/
theorem one_of_true (p : Prop) [Decidable p] (h : p) :
    (FloatOps.sitofp (F := Ideal) .f32 (BitVec.setWidth 32 (BitVec.ofBool (decide p))) : EReal) = 1 := by
  rw [decide_eq_true h]
  show (((BitVec.setWidth 32 (BitVec.ofBool true)).toInt : ℝ) : EReal) = 1
  rw [show (BitVec.setWidth 32 (BitVec.ofBool true)).toInt = 1 by decide]
  simp

/-- A choice by a decided bit. -/
theorem select_ite {α : Type} (p : Prop) [Decidable p] (a b : α) :
    Scalar.select (if p then 1#1 else 0#1) a b = if p then a else b := by
  split <;> rfl

end Cert.Fronts

end
-- ==== Proof.FrontKernel.lean ====
/- The kernel's front finder, its values read row by row: in round `k` the row holds the scores with the first `k`
   selections raised to the top, the bits mark the lane selected, and the four stored columns are the row's values at
   that lane. -/
module

public import proofs.«01_k».proof.Proof.FrontRow
public import proofs.«01_k».proof.Proof.FrontIdeal
public import Idealize.ShloMosaic.Lib.Pointwise
public import Idealize.ShloMosaic.Lib.Pipeline.ValueKit

@[expose] public section

set_option maxRecDepth 16384

noncomputable section

namespace Cert.Fronts.Ker

open Idealize.ShloMosaic Idealize.ShloMosaic.TcCoe
open Cert.KernelIdeal Cert.KernelIdeal.Gen

/-- A row of a block. -/
abbrev blockRow (x : FVec Ideal S16x8192 .f32) (r : Fin 16) (l : Fin 8192) : EReal := x (ix2 r l)

variable (x0 x1 : Vec Ideal S16x8192 .f32)

/-- The scores of a row of the two input blocks. -/
abbrev scores (r : Fin 16) : Fin 8192 → EReal := score (blockRow x0 r) (blockRow x1 r)

/-- The row's own values. -/
theorem value_at (r : Fin 16) (l : Fin 8192) : (k0_pay67 x0 x1 (ix2 r l) : EReal) = blockRow x0 r l := by
  pointwise [k0_pay67, k0_pay2]

/-- The right neighbours. -/
theorem right_at (r : Fin 16) (l : Fin 8192) : (k0_pay68 x0 x1 (ix2 r l) : EReal) = nxt (blockRow x0 r) l := by
  pointwise [k0_pay68, k0_pay3, k0_pay2]
  exact nxt_eq (blockRow x0 r) l

/-- The half-way coordinates. -/
theorem mid_at (r : Fin 16) (l : Fin 8192) : (k0_pay69 x0 x1 (ix2 r l) : EReal) = mid (blockRow x1 r) l := by
  pointwise [k0_pay69, k0_pay6]
  unfold mid
  rw [← nxt_eq]

/-- The bits of the fronts. -/
theorem front_at (r : Fin 16) (l : Fin 8192) :
    k0_pay4 (F := Ideal) (View.ld x0 r0_0) (ix2 r l) = if IsFront (blockRow x0 r) l then 1#1 else 0#1 := by
  have h : (k0_pay3 (View.ld x0 r0_0) (ix2 r l) : EReal) = nxt (blockRow x0 r) l := right_at x0 x0 r l
  have h' : (k0_pay2 (View.ld x0 r0_0) (ix2 r l) : EReal) = blockRow x0 r l := value_at x0 x0 r l
  pointwise [k0_pay4]
  rw [h, h']
  exact front_bit (blockRow x0 r) l

/-- The scores. -/
theorem score_at (r : Fin 16) (l : Fin 8192) : (k0_pay70 x0 x1 (ix2 r l) : EReal) = scores x0 x1 r l := by
  have h : k0_pay4 (F := Ideal) (View.ld x0 r0_0) (ix2 r l) = _ := front_at x0 r l
  have h' : (k0_pay6 (View.ld x1 r0_0) (ix2 r l) : EReal) = _ := mid_at x1 x1 r l
  pointwise [k0_pay70, k0_pay7]
  rw [h, h', select_ite, inf_eq]
  rfl

/-- The lane numbers. -/
theorem lane_at (r : Fin 16) (l : Fin 8192) : k0_pay66 x0 x1 (ix2 r l) = BitVec.ofNat 32 l.val := by
  pointwise [k0_pay66]

/-- Round `k`: the rows `s` hold the scores with `k` selections raised to the top, and the bits `b` mark the next one. -/
def Round (k : Nat) (s : FVec Ideal S16x8192 .f32) (b : IVec S16x8192 1) : Prop :=
  (∀ r l, (s (ix2 r l) : EReal) = rest (scores x0 x1 r) k l) ∧
    ∀ r l, b (ix2 r l) = if l = pickAt (scores x0 x1 r) k then 1#1 else 0#1

variable {x0 x1}

/-- Raising the marked lane to the top. -/
theorem raise_at {k : Nat} {s : FVec Ideal S16x8192 .f32} {b : IVec S16x8192 1} (h : Round x0 x1 k s b) (r : Fin 16)
    (l : Fin 8192) : (k0_pay15 s b (ix2 r l) : EReal) = rest (scores x0 x1 r) (k + 1) l := by
  pointwise [k0_pay15]
  rw [h.2, select_ite, h.1, inf_eq, rest_succ]

/-- The bits of the lane of the least entry. -/
theorem bits_at (i : IVec S16x8192 32) (hi : ∀ r l, i (ix2 r l) = BitVec.ofNat 32 l.val)
    (s : FVec Ideal S16x8192 .f32) (b : IVec S16x8192 1) (r : Fin 16) (l : Fin 8192) :
    k0_pay17 i s b (ix2 r l) = if l = pick (fun x => (k0_pay15 s b (ix2 r x) : EReal)) then 1#1 else 0#1 := by
  pointwise [k0_pay17, k0_pay16]
  simp only [hi]
  rw [fold_lane_eq (fun x => (k0_pay15 s b (ix2 r x) : EReal)) _ (by rw [inf_eq]; exact fold_min_eq _), lane_bit]

/-- One round more. -/
theorem Round.step {k : Nat} {s : FVec Ideal S16x8192 .f32} {b : IVec S16x8192 1} (h : Round x0 x1 k s b) :
    Round x0 x1 (k + 1) (k0_pay15 s b) (k0_pay17 (k0_pay66 x0 x1) s b) := by
  refine ⟨raise_at h, fun r l => ?_⟩
  rw [bits_at _ (lane_at x0 x1), show (fun x => (k0_pay15 s b (ix2 r x) : EReal)) = rest (scores x0 x1 r) (k + 1) from
    funext fun x => raise_at h r x]
  rfl

/-- The column of the marked lanes' values. -/
theorem column_at {k : Nat} {s : FVec Ideal S16x8192 .f32} {b : IVec S16x8192 1} (h : Round x0 x1 k s b)
    (v : FVec Ideal S16x8192 .f32) (r : Fin 16) (z : Fin 1) :
    (k0_pay12 v b (ix2 r z) : EReal) = v (ix2 r (pickAt (scores x0 x1 r) k)) := by
  pointwise [k0_pay12]
  simp only [h.2, select_ite]
  exact sum_at _ fun l => (v (ix2 r l) : EReal)

/-- The column that says whether the least entry of the rows is below the top. -/
theorem valid_at {k : Nat} {s : FVec Ideal S16x8192 .f32} {b : IVec S16x8192 1} (h : Round x0 x1 k s b) (r : Fin 16)
    (z : Fin 1) (hlt : rest (scores x0 x1 r) (k + 1) (pickAt (scores x0 x1 r) (k + 1)) < ⊤) :
    (k0_pay14 (k0_pay16 s b) (ix2 r z) : EReal) = 1 := by
  have e : (fun x => (k0_pay15 s b (ix2 r x) : EReal)) = rest (scores x0 x1 r) (k + 1) := funext fun x => raise_at h r x
  pointwise [k0_pay14, k0_pay16]
  refine one_of_true _ ?_
  rw [e, inf_eq, fold_min_eq]
  exact hlt

variable (x0 x1)

/-- The first round. -/
theorem round0 : Round x0 x1 0 (k0_pay70 x0 x1) (k0_pay71 x0 x1) := by
  refine ⟨score_at x0 x1, fun r l => ?_⟩
  have e : (fun x => (k0_pay70 x0 x1 (ix2 r x) : EReal)) = scores x0 x1 r := funext fun x => score_at x0 x1 r x
  have key : ∀ s : Fin 8192 → EReal, IntOp.cmpi .eq (BitVec.ofNat 32 l.val)
      (Finset.univ.fold IntOp.minsi 2147483647#32 fun x =>
        if s x = Finset.univ.fold min (Ideal.ofBits .f32 0x7F800000#32) (fun y => s y) then BitVec.ofNat 32 x.val else 8192#32)
        = if l = pick s then 1#1 else 0#1 := fun s => by
    rw [fold_lane_eq s _ (by rw [inf_eq]; exact fold_min_eq s), lane_bit]
  show _ = if l = pick (scores x0 x1 r) then 1#1 else 0#1
  rw [← e, ← key]
  unfold k0_pay70
  pointwise [k0_pay71, k0_pay9, k0_pay8]

/-- The second round. -/
theorem round1 : Round x0 x1 1 (k0_pay72 x0 x1) (k0_pay73 x0 x1) := (round0 x0 x1).step
/-- The third round. -/
theorem round2 : Round x0 x1 2 (k0_pay74 x0 x1) (k0_pay75 x0 x1) := (round1 x0 x1).step
/-- The fourth round. -/
theorem round3 : Round x0 x1 3 (k0_pay76 x0 x1) (k0_pay77 x0 x1) := (round2 x0 x1).step
/-- The fifth round. -/
theorem round4 : Round x0 x1 4 (k0_pay78 x0 x1) (k0_pay79 x0 x1) := (round3 x0 x1).step
/-- The sixth round. -/
theorem round5 : Round x0 x1 5 (k0_pay80 x0 x1) (k0_pay81 x0 x1) := (round4 x0 x1).step
/-- The seventh round. -/
theorem round6 : Round x0 x1 6 (k0_pay82 x0 x1) (k0_pay83 x0 x1) := (round5 x0 x1).step

/-- The eighth round. -/
theorem round7 : Round x0 x1 7 (k0_pay15 (k0_pay82 x0 x1) (k0_pay83 x0 x1))
    (k0_pay17 (k0_pay66 x0 x1) (k0_pay82 x0 x1) (k0_pay83 x0 x1)) := (round6 x0 x1).step

variable {x0 x1}

/-- A stored column, at an index of the column that lands at row `r` and column `k`. -/
theorem column_out {n : Nat} {s : FVec Ideal S16x8192 .f32} {b : IVec S16x8192 1} (h : Round x0 x1 n s b)
    (v : FVec Ideal S16x8192 .f32) (f : Fin 16 → Fin 8192 → EReal) (hv : ∀ r l, (v (ix2 r l) : EReal) = f r l)
    (r : Fin 16) (k : Fin 8) (x : S16x1.Idx) (hr : r.val = (x 0).val) (hk : k.val = n + (x 1).val) (hx : (x 1).val < 1) :
    (k0_pay12 v b x : EReal) = f r (pickAt (scores x0 x1 r) k.val) := by
  have e : x = ix2 r (x 1) := by
    funext a
    match a with
    | 0 => exact Fin.ext hr.symm
    | 1 => rfl
  have hk' : k.val = n := by omega
  rw [e, hk']
  exact (column_at h v r (x 1)).trans (hv _ _)

/-- The same of the column that says whether a front was selected. -/
theorem valid_out {n : Nat} {s : FVec Ideal S16x8192 .f32} {b : IVec S16x8192 1} (h : Round x0 x1 n s b)
    (r : Fin 16) (k : Fin 8) (x : S16x1.Idx) (hr : r.val = (x 0).val) (hk : k.val = n + 1 + (x 1).val) (hx : (x 1).val < 1)
    (hlt : rest (scores x0 x1 r) k.val (pickAt (scores x0 x1 r) k.val) < ⊤) :
    (k0_pay14 (k0_pay16 s b) x : EReal) = 1 := by
  have e : x = ix2 r (x 1) := by
    funext a
    match a with
    | 0 => exact Fin.ext hr.symm
    | 1 => rfl
  have hk' : k.val = n + 1 := by omega
  rw [e]
  exact valid_at h r _ (hk' ▸ hlt)

variable (x0 x1)

/-- The stored values at the selected lanes. -/
theorem left_out (r : Fin 16) (k : Fin 8) :
    (out0_2 x0 x1 (ix2 r k) : EReal) = blockRow x0 r (pickAt (scores x0 x1 r) k.val) := by
  rw [out0_2]
  canon_tiles x h
  · exact column_out (round7 x0 x1) (k0_pay67 x0 x1) _ (value_at x0 x1) r k x h0 h1 x1_lt
  · exact column_out (round6 x0 x1) (k0_pay67 x0 x1) _ (value_at x0 x1) r k x h0 h1 x1_lt
  · exact column_out (round5 x0 x1) (k0_pay67 x0 x1) _ (value_at x0 x1) r k x h0 h1 x1_lt
  · exact column_out (round4 x0 x1) (k0_pay67 x0 x1) _ (value_at x0 x1) r k x h0 h1 x1_lt
  · exact column_out (round3 x0 x1) (k0_pay67 x0 x1) _ (value_at x0 x1) r k x h0 h1 x1_lt
  · exact column_out (round2 x0 x1) (k0_pay67 x0 x1) _ (value_at x0 x1) r k x h0 h1 x1_lt
  · exact column_out (round1 x0 x1) (k0_pay67 x0 x1) _ (value_at x0 x1) r k x h0 h1 x1_lt
  · exact column_out (round0 x0 x1) (k0_pay67 x0 x1) _ (value_at x0 x1) r k x h0 (by rw [Nat.zero_add]; exact h1) x1_lt

/-- The stored right neighbours at the selected lanes. -/
theorem right_out (r : Fin 16) (k : Fin 8) :
    (out0_3 x0 x1 (ix2 r k) : EReal) = nxt (blockRow x0 r) (pickAt (scores x0 x1 r) k.val) := by
  rw [out0_3]
  canon_tiles x h
  · exact column_out (round7 x0 x1) (k0_pay68 x0 x1) (fun r => nxt (blockRow x0 r)) (right_at x0 x1) r k x h0 h1 x1_lt
  · exact column_out (round6 x0 x1) (k0_pay68 x0 x1) (fun r => nxt (blockRow x0 r)) (right_at x0 x1) r k x h0 h1 x1_lt
  · exact column_out (round5 x0 x1) (k0_pay68 x0 x1) (fun r => nxt (blockRow x0 r)) (right_at x0 x1) r k x h0 h1 x1_lt
  · exact column_out (round4 x0 x1) (k0_pay68 x0 x1) (fun r => nxt (blockRow x0 r)) (right_at x0 x1) r k x h0 h1 x1_lt
  · exact column_out (round3 x0 x1) (k0_pay68 x0 x1) (fun r => nxt (blockRow x0 r)) (right_at x0 x1) r k x h0 h1 x1_lt
  · exact column_out (round2 x0 x1) (k0_pay68 x0 x1) (fun r => nxt (blockRow x0 r)) (right_at x0 x1) r k x h0 h1 x1_lt
  · exact column_out (round1 x0 x1) (k0_pay68 x0 x1) (fun r => nxt (blockRow x0 r)) (right_at x0 x1) r k x h0 h1 x1_lt
  · exact column_out (round0 x0 x1) (k0_pay68 x0 x1) (fun r => nxt (blockRow x0 r)) (right_at x0 x1) r k x h0 (by rw [Nat.zero_add]; exact h1) x1_lt

/-- The stored half-way coordinates at the selected lanes. -/
theorem mid_out (r : Fin 16) (k : Fin 8) :
    (out0_4 x0 x1 (ix2 r k) : EReal) = mid (blockRow x1 r) (pickAt (scores x0 x1 r) k.val) := by
  rw [out0_4]
  canon_tiles x h
  · exact column_out (round7 x0 x1) (k0_pay69 x0 x1) (fun r => mid (blockRow x1 r)) (mid_at x0 x1) r k x h0 h1 x1_lt
  · exact column_out (round6 x0 x1) (k0_pay69 x0 x1) (fun r => mid (blockRow x1 r)) (mid_at x0 x1) r k x h0 h1 x1_lt
  · exact column_out (round5 x0 x1) (k0_pay69 x0 x1) (fun r => mid (blockRow x1 r)) (mid_at x0 x1) r k x h0 h1 x1_lt
  · exact column_out (round4 x0 x1) (k0_pay69 x0 x1) (fun r => mid (blockRow x1 r)) (mid_at x0 x1) r k x h0 h1 x1_lt
  · exact column_out (round3 x0 x1) (k0_pay69 x0 x1) (fun r => mid (blockRow x1 r)) (mid_at x0 x1) r k x h0 h1 x1_lt
  · exact column_out (round2 x0 x1) (k0_pay69 x0 x1) (fun r => mid (blockRow x1 r)) (mid_at x0 x1) r k x h0 h1 x1_lt
  · exact column_out (round1 x0 x1) (k0_pay69 x0 x1) (fun r => mid (blockRow x1 r)) (mid_at x0 x1) r k x h0 h1 x1_lt
  · exact column_out (round0 x0 x1) (k0_pay69 x0 x1) (fun r => mid (blockRow x1 r)) (mid_at x0 x1) r k x h0 (by rw [Nat.zero_add]; exact h1) x1_lt

/-- The stored marks are one while the selected score is below the top. -/
theorem mark_out (r : Fin 16) (k : Fin 8) (w : rest (scores x0 x1 r) k.val (pickAt (scores x0 x1 r) k.val) < ⊤) :
    (out0_5 x0 x1 (ix2 r k) : EReal) = 1 := by
  rw [out0_5]
  canon_tiles x h
  · exact valid_out (round6 x0 x1) r k x h0 h1 x1_lt w
  · exact valid_out (round5 x0 x1) r k x h0 h1 x1_lt w
  · exact valid_out (round4 x0 x1) r k x h0 h1 x1_lt w
  · exact valid_out (round3 x0 x1) r k x h0 h1 x1_lt w
  · exact valid_out (round2 x0 x1) r k x h0 h1 x1_lt w
  · exact valid_out (round1 x0 x1) r k x h0 h1 x1_lt w
  · exact valid_out (round0 x0 x1) r k x h0 h1 x1_lt w
  · have e : x = ix2 r (x 1) := by
      funext a
      match a with
      | 0 => exact Fin.ext h0.symm
      | 1 => rfl
    have e' : (fun l => (k0_pay70 x0 x1 (ix2 r l) : EReal)) = scores x0 x1 r := funext fun l => score_at x0 x1 r l
    have hk : k.val = 0 := by
      have : k.val = (x 1).val := h1
      omega
    rw [hk] at w
    unfold k0_pay70 at e'
    rw [e]
    pointwise [k0_pay14, k0_pay8]
    refine one_of_true _ ?_
    rw [e', inf_eq, fold_min_eq]
    exact w

/-- The stored counts. -/
theorem count_out (r : Fin 16) (k : Fin 8) : out0_6 x0 x1 (ix2 r k) = frontCount (blockRow x0 r) := by
  rw [out0_6]
  canon_tiles x h
  have e : x = ix2 r (x 1) := by
    funext a
    match a with
    | 0 => exact Fin.ext h0.symm
    | 1 => rfl
  rw [e]
  pointwise [k0_pay5]
  rw [IndicatorCount.fold_addi_setWidth_eq_card]
  simp only [front_at]
  unfold frontCount
  congr 2
  ext l
  simp only [Finset.mem_filter, Finset.mem_univ, true_and]
  by_cases hl : IsFront (blockRow x0 r) l
  · simp only [if_pos hl, true_iff]; exact hl
  · simp only [if_neg hl, hl]; decide

end Cert.Fronts.Ker

end
-- ==== Proof.FrontOut.lean ====
/- The front finder's five result arrays as a whole: row `b` of each is computed from row `b` of the two inputs. -/
module

public import proofs.«01_k».proof.Proof.FrontKernel

@[expose] public section

set_option maxRecDepth 16384

noncomputable section

namespace Cert.Fronts.Ker

open Idealize.ShloMosaic Idealize.ShloMosaic.TcCoe
open Cert.KernelIdeal Cert.KernelIdeal.Gen

/-- A row of a whole input array. -/
abbrev arrRow (x : FVec Ideal S128x8192 .f32) (b : Fin 128) (l : Fin 8192) : EReal := x (ix2 b l)

/-- The scores of a row of the two input arrays. -/
abbrev arrScores (x y : FVec Ideal S128x8192 .f32) (b : Fin 128) : Fin 8192 → EReal := score (arrRow x b) (arrRow y b)

/-- The position selected in round `k` of row `b`. -/
abbrev sel (x y : FVec Ideal S128x8192 .f32) (b : Fin 128) (k : Nat) : Fin 8192 := pickAt (arrScores x y b) k

/-- Every window's block at point `t` is the `t`-th block of sixteen rows. -/
theorem idx0 : ∀ t : Fin cfg0.N, (win0_0.index t = ![t.val, 0] ∧ win0_1.index t = ![t.val, 0] ∧ win0_2.index t = ![t.val, 0]) ∧
    win0_3.index t = ![t.val, 0] ∧ win0_4.index t = ![t.val, 0] ∧ win0_5.index t = ![t.val, 0] ∧ win0_6.index t = ![t.val, 0] :=
  (by decide +kernel : ∀ t : Fin grid0.N, _)

variable (V : (c : Dev nD) → (b : Ref sig .tc) → Buf (Elt Ideal) ((c : Thread nD τ).loc b)) (c : Dev nD)

/-- Row `r` of block `t` is row `16 t + r` of the array. -/
theorem blk0_0 (t : Fin cfg0.N) (r : Fin 16) (b : Fin 128) (hb : b.val = t.val * 16 + r.val) :
    blockRow (iblk0 V c 0 t) r = arrRow (V c main_v1) b := by
  have e := (idx0 t).1.1
  funext l
  show iblk0 V c 0 t (ix2 r l) = V c main_v1 (ix2 b l)
  blk_ext [iblk0, e, hb]

/-- The same of the second input. -/
theorem blk0_1 (t : Fin cfg0.N) (r : Fin 16) (b : Fin 128) (hb : b.val = t.val * 16 + r.val) :
    blockRow (iblk0 V c 1 t) r = arrRow (V c main_v3) b := by
  have e := (idx0 t).1.2.1
  funext l
  show iblk0 V c 1 t (ix2 r l) = V c main_v3 (ix2 b l)
  blk_ext [iblk0, e, hb]

/-- The first result: the values at the selected positions. -/
theorem final0_2 : (dat0 V c).arrAt 2 cfg0.N = fun j : S128x8.Idx =>
    arrRow (V c main_v1) (j 0) (sel (V c main_v1) (V c main_v3) (j 0) (j 1).val) := by
  refine (dat0 V c).arrAt_eq_of_covers 2 _ (by decide +kernel) fun t hf y => ?_
  have e := (idx0 t).1.2.2
  have point : ∀ (r : Fin 16) (k : Fin 8) (b : Fin 128) (n : Nat), b.val = t.val * 16 + r.val → n = k.val →
      out0_2 (iblk0 V c 0 t) (iblk0 V c 1 t) (ix2 r k) = arrRow (V c main_v1) b (sel (V c main_v1) (V c main_v3) b n) := by
    intro r k b n hb hn
    have e0 := blk0_0 V c t r b hb
    have e1 := blk0_1 V c t r b hb
    subst hn
    rw [left_out (iblk0 V c 0 t) (iblk0 V c 1 t) r k, scores, e0, e1]
  have hb : ((win0_2.blk t).view.emb y 0).val = t.val * 16 + (y 0).val := by blk_simp [e]
  have hn : win0_2.index t 1 * 8 + (y 1).val = (y 1).val := by rw [e]; simp
  blk_simp
  rw [after0_2]
  exact (congrArg _ (eq_ix2 y)).trans (point (y 0) (y 1) _ _ hb hn)

/-- The second result: the right neighbours at the selected positions. -/
theorem final0_3 : (dat0 V c).arrAt 3 cfg0.N = fun j : S128x8.Idx =>
    nxt (arrRow (V c main_v1) (j 0)) (sel (V c main_v1) (V c main_v3) (j 0) (j 1).val) := by
  refine (dat0 V c).arrAt_eq_of_covers 3 _ (by decide +kernel) fun t hf y => ?_
  have e := (idx0 t).2.1
  have point : ∀ (r : Fin 16) (k : Fin 8) (b : Fin 128) (n : Nat), b.val = t.val * 16 + r.val → n = k.val →
      out0_3 (iblk0 V c 0 t) (iblk0 V c 1 t) (ix2 r k) = nxt (arrRow (V c main_v1) b) (sel (V c main_v1) (V c main_v3) b n) := by
    intro r k b n hb hn
    have e0 := blk0_0 V c t r b hb
    have e1 := blk0_1 V c t r b hb
    subst hn
    rw [right_out (iblk0 V c 0 t) (iblk0 V c 1 t) r k, scores, e0, e1]
  have hb : ((win0_3.blk t).view.emb y 0).val = t.val * 16 + (y 0).val := by blk_simp [e]
  have hn : win0_3.index t 1 * 8 + (y 1).val = (y 1).val := by rw [e]; simp
  blk_simp
  rw [after0_3]
  exact (congrArg _ (eq_ix2 y)).trans (point (y 0) (y 1) _ _ hb hn)

/-- The third result: the half-way coordinates at the selected positions. -/
theorem final0_4 : (dat0 V c).arrAt 4 cfg0.N = fun j : S128x8.Idx =>
    mid (arrRow (V c main_v3) (j 0)) (sel (V c main_v1) (V c main_v3) (j 0) (j 1).val) := by
  refine (dat0 V c).arrAt_eq_of_covers 4 _ (by decide +kernel) fun t hf y => ?_
  have e := (idx0 t).2.2.1
  have point : ∀ (r : Fin 16) (k : Fin 8) (b : Fin 128) (n : Nat), b.val = t.val * 16 + r.val → n = k.val →
      out0_4 (iblk0 V c 0 t) (iblk0 V c 1 t) (ix2 r k) = mid (arrRow (V c main_v3) b) (sel (V c main_v1) (V c main_v3) b n) := by
    intro r k b n hb hn
    have e0 := blk0_0 V c t r b hb
    have e1 := blk0_1 V c t r b hb
    subst hn
    rw [mid_out (iblk0 V c 0 t) (iblk0 V c 1 t) r k, scores, e0, e1]
  have hb : ((win0_4.blk t).view.emb y 0).val = t.val * 16 + (y 0).val := by blk_simp [e]
  have hn : win0_4.index t 1 * 8 + (y 1).val = (y 1).val := by rw [e]; simp
  blk_simp
  rw [after0_4]
  exact (congrArg _ (eq_ix2 y)).trans (point (y 0) (y 1) _ _ hb hn)

/-- The fourth result: one throughout, while every row has a selection below the top in each of the eight rounds. -/
theorem final0_5 (lt : ∀ (b : Fin 128) (k : Fin 8), rest (arrScores (V c main_v1) (V c main_v3) b) k.val (sel (V c main_v1) (V c main_v3) b k.val) < ⊤) : (dat0 V c).arrAt 5 cfg0.N = fun j : S128x8.Idx =>
    (1 : EReal) := by
  refine (dat0 V c).arrAt_eq_of_covers 5 _ (by decide +kernel) fun t hf y => ?_
  have e := (idx0 t).2.2.2.1
  have point : ∀ (r : Fin 16) (k : Fin 8) (b : Fin 128) (n : Nat), b.val = t.val * 16 + r.val → n = k.val →
      out0_5 (iblk0 V c 0 t) (iblk0 V c 1 t) (ix2 r k) = (1 : EReal) := by
    intro r k b n hb hn
    have e0 := blk0_0 V c t r b hb
    have e1 := blk0_1 V c t r b hb
    subst hn
    refine mark_out (iblk0 V c 0 t) (iblk0 V c 1 t) r k ?_
    rw [scores, e0, e1]
    exact lt b k
  have hb : ((win0_5.blk t).view.emb y 0).val = t.val * 16 + (y 0).val := by blk_simp [e]
  have hn : win0_5.index t 1 * 8 + (y 1).val = (y 1).val := by rw [e]; simp
  blk_simp
  rw [after0_5]
  exact (congrArg _ (eq_ix2 y)).trans (point (y 0) (y 1) _ _ hb hn)

/-- The fifth result: the number of fronts, in every column. -/
theorem final0_6 : (dat0 V c).arrAt 6 cfg0.N = fun j : S128x8.Idx =>
    frontCount (arrRow (V c main_v1) (j 0)) := by
  refine (dat0 V c).arrAt_eq_of_covers 6 _ (by decide +kernel) fun t hf y => ?_
  have e := (idx0 t).2.2.2.2
  have point : ∀ (r : Fin 16) (k : Fin 8) (b : Fin 128) (n : Nat), b.val = t.val * 16 + r.val → n = k.val →
      out0_6 (iblk0 V c 0 t) (iblk0 V c 1 t) (ix2 r k) = frontCount (arrRow (V c main_v1) b) := by
    intro r k b n hb hn
    have e0 := blk0_0 V c t r b hb
    have e1 := blk0_1 V c t r b hb
    subst hn
    rw [count_out (iblk0 V c 0 t) (iblk0 V c 1 t) r k, e0]
  have hb : ((win0_6.blk t).view.emb y 0).val = t.val * 16 + (y 0).val := by blk_simp [e]
  have hn : win0_6.index t 1 * 8 + (y 1).val = (y 1).val := by rw [e]; simp
  blk_simp
  rw [after0_6]
  exact (congrArg _ (eq_ix2 y)).trans (point (y 0) (y 1) _ _ hb hn)

end Cert.Fronts.Ker

end
-- ==== Proof.MlpRow.lean ====
/- The dense network on one row, as mathematics over the extended reals: the layer norm, the activation, the dense layer,
   the residual block, the input layer on the six features of a front and the output head. Both programs are read as
   these functions (MlpRef.lean, MlpKernel.lean). -/
module

public import Idealize.ShloMosaic.Lib.Pointwise

@[expose] public section

noncomputable section

namespace Cert.Fronts

open Idealize.ShloMosaic

/-- The mean of a row of 128. -/
def mean (h : Fin 128 → EReal) : EReal := Ideal.div (∑ k, h k) (Ideal.ofBits .f32 0x43000000#32)

/-- The layer norm of a row with scale `g` and shift `b`. -/
def lnRow (g b h : Fin 128 → EReal) (j : Fin 128) : EReal :=
  Ideal.div (h j - mean h)
    (Ideal.sqrt (Ideal.div (∑ k, (h k - mean h) * (h k - mean h)) (Ideal.ofBits .f32 0x43000000#32)
      + Ideal.ofBits .f32 0x3727C5AC#32)) * g j + b j

/-- The activation, in the error-function form. -/
def gelu (x : EReal) : EReal :=
  Ideal.ofBits .f32 0x3F000000#32 * x * (1 + Ideal.erf (x * Ideal.ofBits .f32 0x3F3504F3#32))

/-- A dense layer with weights `W` and bias `b` on a row. -/
def dense {n m : Nat} (W : Fin n → Fin m → EReal) (b : Fin m → EReal) (x : Fin n → EReal) (j : Fin m) : EReal :=
  (∑ k, x k * W k j) + b j

/-- Layer norm, dense layer, activation, dense layer. -/
def branch {n m : Nat} (g be : Fin 128 → EReal) (Wa : Fin 128 → Fin n → EReal) (ba : Fin n → EReal)
    (Wb : Fin n → Fin m → EReal) (bb : Fin m → EReal) (h : Fin 128 → EReal) : Fin m → EReal :=
  dense Wb bb fun i => gelu (dense Wa ba (lnRow g be h) i)

/-- The residual block: the row plus its branch. -/
def resBlock {n : Nat} (g be : Fin 128 → EReal) (Wa : Fin 128 → Fin n → EReal) (ba : Fin n → EReal)
    (Wb : Fin n → Fin 128 → EReal) (bb : Fin 128 → EReal) (h : Fin 128 → EReal) (j : Fin 128) : EReal :=
  h j + branch g be Wa ba Wb bb h j

/-- The six features of a front between the values `a` on its left and `b` on its right. -/
def feat (a b : EReal) : Fin 6 → EReal :=
  ![a, b, a - b, max (a - b) (-(a - b)), Ideal.div (a + b) (Ideal.ofBits .f32 0x40000000#32), Ideal.sign (a - b)]

/-- The input layer: the features' dense layer, the layer norm and the activation. -/
def stem (W : Fin 6 → Fin 128 → EReal) (b g be : Fin 128 → EReal) (x y : EReal) (j : Fin 128) : EReal :=
  gelu (lnRow g be (dense W b (feat x y)) j)

/-- The network's parameters, as functions of their coordinates. -/
structure Params where
  /-- The input layer: weights, bias, and its layer norm's scale and shift. -/
  Win : Fin 6 → Fin 128 → EReal
  bin : Fin 128 → EReal
  gin : Fin 128 → EReal
  bein : Fin 128 → EReal
  /-- The first residual block. -/
  g1 : Fin 128 → EReal
  be1 : Fin 128 → EReal
  W1a : Fin 128 → Fin 256 → EReal
  b1a : Fin 256 → EReal
  W1b : Fin 256 → Fin 128 → EReal
  b1b : Fin 128 → EReal
  /-- The second residual block. -/
  g2 : Fin 128 → EReal
  be2 : Fin 128 → EReal
  W2a : Fin 128 → Fin 256 → EReal
  b2a : Fin 256 → EReal
  W2b : Fin 256 → Fin 128 → EReal
  b2b : Fin 128 → EReal
  /-- The third residual block. -/
  g3 : Fin 128 → EReal
  be3 : Fin 128 → EReal
  W3a : Fin 128 → Fin 256 → EReal
  b3a : Fin 256 → EReal
  W3b : Fin 256 → Fin 128 → EReal
  b3b : Fin 128 → EReal
  /-- The output head. -/
  gh : Fin 128 → EReal
  beh : Fin 128 → EReal
  Wh1 : Fin 128 → Fin 64 → EReal
  bh1 : Fin 64 → EReal
  Wh2 : Fin 64 → Fin 2 → EReal
  bh2 : Fin 2 → EReal

/-- The network's row before the output head, on the values `x` and `y` beside a front. -/
def trunk (p : Params) (x y : EReal) : Fin 128 → EReal :=
  resBlock p.g3 p.be3 p.W3a p.b3a p.W3b p.b3b (resBlock p.g2 p.be2 p.W2a p.b2a p.W2b p.b2b
    (resBlock p.g1 p.be1 p.W1a p.b1a p.W1b p.b1b (stem p.Win p.bin p.gin p.bein x y)))

/-- The network: the two outputs for a front between the values `x` and `y`. -/
def net (p : Params) (x y : EReal) : Fin 2 → EReal := branch p.gh p.beh p.Wh1 p.bh1 p.Wh2 p.bh2 (trunk p x y)

/-- Half of a sum, as a product and as a quotient. -/
theorem half_eq (x : EReal) : x * Ideal.ofBits .f32 0x3F000000#32 = Ideal.div x (Ideal.ofBits .f32 0x40000000#32) := by
  have h2 : Ideal.ofBits .f32 0x40000000#32 = ((2 : ℝ) : EReal) := by
    simp [Ideal.ofBits, Ideal.ieee, -EReal.coe_mul]; norm_num
  have h1 : Ideal.ofBits .f32 0x3F000000#32 = (((2 : ℝ)⁻¹ : ℝ) : EReal) := by
    simp [Ideal.ofBits, Ideal.ieee, -EReal.coe_mul]; norm_num
  have h0 : ((2 : ℝ) : EReal) ≠ 0 := by simp
  rw [h1, h2, Ideal.div, if_neg h0, EReal.coe_inv]

/-- The features' dense layer written as a sum from the left. -/
theorem dense_feat (W : Fin 6 → Fin 128 → EReal) (b : Fin 128 → EReal) (x y : EReal) (j : Fin 128) :
    x * W 0 j + y * W 1 j + (x - y) * W 2 j + max (x - y) (-(x - y)) * W 3 j
      + (x + y) * Ideal.ofBits .f32 0x3F000000#32 * W 4 j + Ideal.sign (x - y) * W 5 j + b j
      = dense W b (feat x y) j := by
  rw [dense, Fin.sum_univ_six, half_eq]; rfl

/-- A sum over 128 whose upper half vanishes is the sum over its lower half. -/
theorem sum_pad (f : Fin 128 → EReal) (hf : ∀ i : Fin 128, 64 ≤ (i : ℕ) → f i = 0) :
    ∑ i, f i = ∑ i : Fin 64, f (i.castLE (by decide)) := by
  have h := Fin.sum_univ_add (a := 64) (b := 64) f
  rw [Finset.sum_eq_zero (s := Finset.univ) (f := fun i : Fin 64 => f (Fin.natAdd 64 i)) fun i _ => hf _ (by simp),
    add_zero] at h
  exact h

/-- A head padded to 128 columns gives the head's outputs: the padding's inner columns meet zero weights. -/
theorem branch_pad (g be : Fin 128 → EReal) (Wa : Fin 128 → Fin 128 → EReal) (ba : Fin 128 → EReal)
    (Wb : Fin 128 → Fin 128 → EReal) (bb : Fin 128 → EReal) (h : Fin 128 → EReal)
    (hz : ∀ (i j : Fin 128), 64 ≤ (i : ℕ) → Wb i j = 0) (j : Fin 2) :
    branch g be Wa ba Wb bb h (j.castLE (by decide)) =
      branch g be (fun x (i : Fin 64) => Wa x (i.castLE (by decide))) (fun i => ba (i.castLE (by decide)))
        (fun i j => Wb (i.castLE (by decide)) (j.castLE (by decide))) (fun j => bb (j.castLE (by decide))) h j := by
  unfold branch dense
  rw [sum_pad _ fun k hk => by rw [hz _ _ hk, mul_zero]]

/-- The activation as written with the complementary error function. -/
theorem gelu_erfc (x : EReal) : Ideal.ofBits .f32 0x3F000000#32 * x *
    Ideal.erfc (-x * Ideal.ofBits .f32 0x3F3504F3#32) = gelu x := by
  rw [neg_mul, Ideal.erfc_neg]; rfl

end Cert.Fronts

end
-- ==== Proof.MlpKernel.lean ====
/- The kernel's dense network, its payloads read row by row as the functions of MlpRow.lean. -/
module

public import proofs.«01_k».proof.Proof.MlpRow
public import proofs.«01_k».proof.Proof.Gen.KernelIdeal.Skeleton

@[expose] public section

set_option maxRecDepth 16384

noncomputable section

namespace Cert.Fronts.Ker

open Idealize.ShloMosaic Idealize.ShloMosaic.TcCoe
open Cert.KernelIdeal Cert.KernelIdeal.Gen

/-- A row of a matrix. -/
abbrev rowOf {n m : Nat} (x : FVec Ideal (⟨2, ![n, m]⟩ : Shape) .f32) (r : Fin n) (j : Fin m) : EReal := x (ix2 r j)

/-- A matrix by coordinates. -/
abbrev matOf {n m : Nat} (x : FVec Ideal (⟨2, ![n, m]⟩ : Shape) .f32) (i : Fin n) (j : Fin m) : EReal := x (ix2 i j)

/-- The sign of the difference. -/
theorem pay5_at (x y) (k : Fin 8) (b : Fin 128) :
    (k1_pay5 (F := Ideal) x y (ix2 k b) : EReal) = Ideal.sign (x (ix2 k b) - y (ix2 k b)) := by
  have h : (k1_pay4 (F := Ideal) x y (ix2 k b) : EReal) = x (ix2 k b) - y (ix2 k b) := by
    pointwise [k1_pay4, k1_pay3, k1_pay2]
  exact (Ideal.jnp_sign_eq_sign_f32 (k1_pay4 (F := Ideal) x y (ix2 k b))).trans (by rw [h])

/-- The first four features' products. -/
theorem pay6_at (x y w) (k : Fin 8) (b j : Fin 128) :
    (k1_pay6 (F := Ideal) x y w (ix3 k b j) : EReal) =
      x (ix2 k b) * w (ix2 0 j) + y (ix2 k b) * w (ix2 1 j) + (x (ix2 k b) - y (ix2 k b)) * w (ix2 2 j) +
        max (x (ix2 k b) - y (ix2 k b)) (-(x (ix2 k b) - y (ix2 k b))) * w (ix2 3 j) := by
  pointwise [k1_pay6, k1_pay4, k1_pay3, k1_pay2]
  rfl

/-- Half of the sum. -/
theorem pay7_at (x y) (k : Fin 8) (b : Fin 128) :
    (k1_pay7 (F := Ideal) x y (ix3 k b 0) : EReal) =
      (x (ix2 k b) + y (ix2 k b)) * Ideal.ofBits .f32 0x3F000000#32 := by
  pointwise [k1_pay7, k1_pay4, k1_pay3, k1_pay2]

/-- The fifth feature's weights. -/
theorem pay8_at (w) (j : Fin 128) : (k1_pay8 (F := Ideal) w (ix2 0 j) : EReal) = w (ix2 4 j) := by
  pointwise [k1_pay8]

/-- The input layer's norm. -/
theorem pay9_at (x y w bi g be) (r : Fin 1024) (j : Fin 128) :
    (k1_pay9 (F := Ideal) (k1_pay5 x y) w (k1_pay6 x y w) (k1_pay7 x y) (k1_pay8 w) bi g be (ix2 r j) : EReal) =
      lnRow (rowOf g 0) (rowOf be 0) (dense (matOf w) (rowOf bi 0)
        (feat (x (ix2 ⟨r / 128, by omega⟩ ⟨r % 128, by omega⟩)) (y (ix2 ⟨r / 128, by omega⟩ ⟨r % 128, by omega⟩)))) j := by
  rw [show dense (matOf w) (rowOf bi 0) _ = fun j => _ from
    funext fun j => (dense_feat (matOf w) (rowOf bi 0) (x (ix2 ⟨r / 128, by omega⟩ ⟨r % 128, by omega⟩))
      (y (ix2 ⟨r / 128, by omega⟩ ⟨r % 128, by omega⟩)) j).symm]
  pointwise [k1_pay9]
  simp only [pay5_at, pay6_at, pay7_at, pay8_at]
  rfl

/-- The input layer. -/
theorem stem_at (x y w bi g be) (r : Fin 1024) (j : Fin 128) :
    (k1_pay11 (F := Ideal) (k1_pay9 (k1_pay5 x y) w (k1_pay6 x y w) (k1_pay7 x y) (k1_pay8 w) bi g be)
      (k1_pay10 (k1_pay5 x y) w (k1_pay6 x y w) (k1_pay7 x y) (k1_pay8 w) bi g be)
      (Scalar.ofBits .f32 0x3F3504F3#32) (ix2 r j) : EReal) =
      stem (matOf w) (rowOf bi 0) (rowOf g 0) (rowOf be 0)
        (x (ix2 ⟨r / 128, by omega⟩ ⟨r % 128, by omega⟩)) (y (ix2 ⟨r / 128, by omega⟩ ⟨r % 128, by omega⟩)) j := by
  rw [stem, ← pay9_at]
  pointwise [k1_pay11, k1_pay10]
  rfl

/-- The first block's inner layer. -/
theorem pay12_at (v97 v99 c g be Wa ba) (r : Fin 1024) (j : Fin 256) :
    (k1_pay12 (F := Ideal) v97 v99 c g be Wa ba (ix2 r j) : EReal) =
      dense (matOf Wa) (rowOf ba 0) (lnRow (rowOf g 0) (rowOf be 0) (rowOf (k1_pay11 v97 v99 c) r)) j := by
  pointwise [k1_pay12]
  rfl

/-- The first block. -/
theorem block1_at (v97 v99 c g be Wa ba Wb bb) (r : Fin 1024) (j : Fin 128) :
    (k1_pay15 (F := Ideal) (k1_pay11 v97 v99 c) (k1_pay13 v97 v99 c g be Wa ba) (k1_pay14 v97 v99 c g be Wa ba)
      Wb bb (ix2 r j) : EReal) =
      resBlock (rowOf g 0) (rowOf be 0) (matOf Wa) (rowOf ba 0) (matOf Wb) (rowOf bb 0)
        (rowOf (k1_pay11 v97 v99 c) r) j := by
  rw [resBlock, branch, ← funext fun i => pay12_at v97 v99 c g be Wa ba r i]
  pointwise [k1_pay15, k1_pay13, k1_pay14]
  rfl

/-- The second block's first product. -/
theorem pay16_at (v105 v139 v142 v146 v148 g be Wa) (r : Fin 1024) (j : Fin 256) :
    (k1_pay16 (F := Ideal) v105 v139 v142 v146 v148 g be Wa (ix2 r j) : EReal) =
      ∑ x, lnRow (rowOf g 0) (rowOf be 0) (rowOf (k1_pay15 v105 v139 v142 v146 v148) r) x * Wa (ix2 x j) := by
  pointwise [k1_pay16]
  rfl

/-- The second block. -/
theorem block2_at (v105 v139 v142 v146 v148 g be Wa ba Wb bb) (r : Fin 1024) (j : Fin 128) :
    (k1_pay18 (F := Ideal) (k1_pay15 v105 v139 v142 v146 v148) (k1_pay16 v105 v139 v142 v146 v148 g be Wa)
      (k1_pay17 ba) Wb bb (ix2 r j) : EReal) =
      resBlock (rowOf g 0) (rowOf be 0) (matOf Wa) (rowOf ba 0) (matOf Wb) (rowOf bb 0)
        (rowOf (k1_pay15 v105 v139 v142 v146 v148) r) j := by
  rw [resBlock, branch]
  pointwise [k1_pay18, k1_pay17]
  simp only [pay16_at]
  rfl

/-- The third block's norm. -/
theorem pay19_at (v152 v180 v182 v193 v195 g be) (r : Fin 1024) (j : Fin 128) :
    (k1_pay19 (F := Ideal) v152 v180 v182 v193 v195 g be (ix2 r j) : EReal) =
      lnRow (rowOf g 0) (rowOf be 0) (rowOf (k1_pay18 v152 v180 v182 v193 v195) r) j := by
  pointwise [k1_pay19]
  rfl

/-- The third block. -/
theorem block3_at (v152 v180 v182 v193 v195 g be Wa ba Wb bb) (r : Fin 1024) (j : Fin 128) :
    (k1_pay20 (F := Ideal) (k1_pay18 v152 v180 v182 v193 v195) (k1_pay19 v152 v180 v182 v193 v195 g be)
      Wa ba Wb bb (ix2 r j) : EReal) =
      resBlock (rowOf g 0) (rowOf be 0) (matOf Wa) (rowOf ba 0) (matOf Wb) (rowOf bb 0)
        (rowOf (k1_pay18 v152 v180 v182 v193 v195) r) j := by
  rw [resBlock, branch]
  pointwise [k1_pay20]
  simp only [pay19_at]
  rfl

/-- The head. -/
theorem head_at (v199 v225 Wa ba Wb bb g be W b W' b') (r : Fin 1024) (j : Fin 128) :
    (k1_pay1 (F := Ideal) (k1_pay21 g) (k1_pay22 be) (k1_pay24 v199 v225 Wa ba Wb bb) (k1_pay25 v199 v225 Wa ba Wb bb)
      (Scalar.ofBits .f32 0x3727C5AC#32) W b W' b' (ix2 r j) : EReal) =
      branch (rowOf g 0) (rowOf be 0) (matOf W) (rowOf b 0) (matOf W') (rowOf b' 0)
        (rowOf (k1_pay20 v199 v225 Wa ba Wb bb) r) j := by
  rw [branch]
  pointwise [k1_pay1, k1_pay21, k1_pay22, k1_pay24, k1_pay25, k1_pay23]
  rfl

end Cert.Fronts.Ker

end
-- ==== Proof.MlpOut.lean ====
/- The second region's result: what its one point writes back is the network, row by row, on the staged arrays. -/
module

public import proofs.«01_k».proof.Proof.MlpKernel
public import proofs.«01_k».proof.Proof.MlpIdeal
public import Idealize.ShloMosaic.Lib.Pipeline.ValueKit

@[expose] public section

set_option maxRecDepth 16384

noncomputable section

namespace Cert.Fronts.Ker

open Idealize.ShloMosaic Idealize.ShloMosaic.TcCoe
open Idealize.ShloMosaic.Pipeline (Dat)
open Cert.KernelIdeal Cert.KernelIdeal.Gen

/-- The body's result at a row, over any blocks: the padded head on the trunk's row. -/
theorem out_at (x0 x1 x2 x3 x4 x5 x6 x7 x8 x9 x10 x11 x12 x13 x14 x15 x16 x17 x18 x19 x20 x21 x22 x23 x24 x25 x26 x27 x28 x29) (r : Fin 1024) (j : Fin 128) :
    (out1_30 (F := Ideal) x0 x1 x2 x3 x4 x5 x6 x7 x8 x9 x10 x11 x12 x13 x14 x15 x16 x17 x18 x19 x20 x21 x22 x23 x24 x25 x26 x27 x28 x29 (ix2 r j) : EReal) =
      branch (rowOf x24 0) (rowOf x25 0) (matOf x26) (rowOf x27 0) (matOf x28) (rowOf x29 0)
        (resBlock (rowOf x18 0) (rowOf x19 0) (matOf x20) (rowOf x21 0) (matOf x22) (rowOf x23 0)
          (resBlock (rowOf x12 0) (rowOf x13 0) (matOf x14) (rowOf x15 0) (matOf x16) (rowOf x17 0)
            (resBlock (rowOf x6 0) (rowOf x7 0) (matOf x8) (rowOf x9 0) (matOf x10) (rowOf x11 0)
              (stem (matOf x2) (rowOf x3 0) (rowOf x4 0) (rowOf x5 0)
                (x0 (ix2 ⟨r / 128, by omega⟩ ⟨r % 128, by omega⟩)) (x1 (ix2 ⟨r / 128, by omega⟩ ⟨r % 128, by omega⟩)))))) j := by
  unfold out1_30 k1_pay39 k1_pay38 k1_pay37 k1_pay36 k1_pay35 k1_pay34 k1_pay33 k1_pay32 k1_pay31 k1_pay30 k1_pay29 k1_pay28
    k1_pay27 k1_pay26
  frame_out
  rw [head_at, show rowOf (k1_pay20 _ _ _ _ _ _) r = _ from funext fun j => block3_at _ _ _ _ _ _ _ _ _ _ _ r j,
    show rowOf (k1_pay18 _ _ _ _ _) r = _ from funext fun j => block2_at _ _ _ _ _ _ _ _ _ _ _ r j,
    show rowOf (k1_pay15 _ _ _ _ _) r = _ from funext fun j => block1_at _ _ _ _ _ _ _ _ _ r j,
    show rowOf (k1_pay11 _ _ _) r = _ from funext fun j => stem_at _ _ _ _ _ _ r j]

variable (V : (c : Dev nD) → (b : Ref sig .tc) → Buf (Elt Ideal) ((c : Thread nD τ).loc b)) (c : Dev nD)

/-- The parameters as the region's arrays hold them. -/
def params : Params where
  Win := matOf (V c main_arg1)
  bin := rowOf (V c main_v13) 0
  gin := rowOf (V c main_v14) 0
  bein := rowOf (V c main_v15) 0
  g1 := rowOf (V c main_v16) 0
  be1 := rowOf (V c main_v17) 0
  W1a := matOf (V c main_arg7)
  b1a := rowOf (V c main_v18) 0
  W1b := matOf (V c main_arg9)
  b1b := rowOf (V c main_v19) 0
  g2 := rowOf (V c main_v20) 0
  be2 := rowOf (V c main_v21) 0
  W2a := matOf (V c main_arg13)
  b2a := rowOf (V c main_v22) 0
  W2b := matOf (V c main_arg15)
  b2b := rowOf (V c main_v23) 0
  g3 := rowOf (V c main_v24) 0
  be3 := rowOf (V c main_v25) 0
  W3a := matOf (V c main_arg19)
  b3a := rowOf (V c main_v26) 0
  W3b := matOf (V c main_arg21)
  b3b := rowOf (V c main_v27) 0
  gh := rowOf (V c main_v28) 0
  beh := rowOf (V c main_v29) 0
  Wh1 := fun x i => matOf (V c main_v9) x (i.castLE (by decide))
  bh1 := fun i => rowOf (V c main_v30) 0 (i.castLE (by decide))
  Wh2 := fun i j => matOf (V c main_v11) (i.castLE (by decide)) (j.castLE (by decide))
  bh2 := fun j => rowOf (V c main_v31) 0 (j.castLE (by decide))

/-- Window 0 stages its whole array. -/
theorem blk1_0 : iblk1 V c 0 t1_0 = V c main_v7 := by
  have e : ∀ a, win1_0.index t1_0 a = 0 := fun _ => rfl
  funext i; blk_ext [iblk1, e]

/-- Window 1 stages its whole array. -/
theorem blk1_1 : iblk1 V c 1 t1_0 = V c main_v8 := by
  have e : ∀ a, win1_1.index t1_0 a = 0 := fun _ => rfl
  funext i; blk_ext [iblk1, e]

/-- Window 2 stages its whole array. -/
theorem blk1_2 : iblk1 V c 2 t1_0 = V c main_arg1 := by
  have e : ∀ a, win1_2.index t1_0 a = 0 := fun _ => rfl
  funext i; blk_ext [iblk1, e]

/-- Window 3 stages its whole array. -/
theorem blk1_3 : iblk1 V c 3 t1_0 = V c main_v13 := by
  have e : ∀ a, win1_3.index t1_0 a = 0 := fun _ => rfl
  funext i; blk_ext [iblk1, e]

/-- Window 4 stages its whole array. -/
theorem blk1_4 : iblk1 V c 4 t1_0 = V c main_v14 := by
  have e : ∀ a, win1_4.index t1_0 a = 0 := fun _ => rfl
  funext i; blk_ext [iblk1, e]

/-- Window 5 stages its whole array. -/
theorem blk1_5 : iblk1 V c 5 t1_0 = V c main_v15 := by
  have e : ∀ a, win1_5.index t1_0 a = 0 := fun _ => rfl
  funext i; blk_ext [iblk1, e]

/-- Window 6 stages its whole array. -/
theorem blk1_6 : iblk1 V c 6 t1_0 = V c main_v16 := by
  have e : ∀ a, win1_6.index t1_0 a = 0 := fun _ => rfl
  funext i; blk_ext [iblk1, e]

/-- Window 7 stages its whole array. -/
theorem blk1_7 : iblk1 V c 7 t1_0 = V c main_v17 := by
  have e : ∀ a, win1_7.index t1_0 a = 0 := fun _ => rfl
  funext i; blk_ext [iblk1, e]

/-- Window 8 stages its whole array. -/
theorem blk1_8 : iblk1 V c 8 t1_0 = V c main_arg7 := by
  have e : ∀ a, win1_8.index t1_0 a = 0 := fun _ => rfl
  funext i; blk_ext [iblk1, e]

/-- Window 9 stages its whole array. -/
theorem blk1_9 : iblk1 V c 9 t1_0 = V c main_v18 := by
  have e : ∀ a, win1_9.index t1_0 a = 0 := fun _ => rfl
  funext i; blk_ext [iblk1, e]

/-- Window 10 stages its whole array. -/
theorem blk1_10 : iblk1 V c 10 t1_0 = V c main_arg9 := by
  have e : ∀ a, win1_10.index t1_0 a = 0 := fun _ => rfl
  funext i; blk_ext [iblk1, e]

/-- Window 11 stages its whole array. -/
theorem blk1_11 : iblk1 V c 11 t1_0 = V c main_v19 := by
  have e : ∀ a, win1_11.index t1_0 a = 0 := fun _ => rfl
  funext i; blk_ext [iblk1, e]

/-- Window 12 stages its whole array. -/
theorem blk1_12 : iblk1 V c 12 t1_0 = V c main_v20 := by
  have e : ∀ a, win1_12.index t1_0 a = 0 := fun _ => rfl
  funext i; blk_ext [iblk1, e]

/-- Window 13 stages its whole array. -/
theorem blk1_13 : iblk1 V c 13 t1_0 = V c main_v21 := by
  have e : ∀ a, win1_13.index t1_0 a = 0 := fun _ => rfl
  funext i; blk_ext [iblk1, e]

/-- Window 14 stages its whole array. -/
theorem blk1_14 : iblk1 V c 14 t1_0 = V c main_arg13 := by
  have e : ∀ a, win1_14.index t1_0 a = 0 := fun _ => rfl
  funext i; blk_ext [iblk1, e]

/-- Window 15 stages its whole array. -/
theorem blk1_15 : iblk1 V c 15 t1_0 = V c main_v22 := by
  have e : ∀ a, win1_15.index t1_0 a = 0 := fun _ => rfl
  funext i; blk_ext [iblk1, e]

/-- Window 16 stages its whole array. -/
theorem blk1_16 : iblk1 V c 16 t1_0 = V c main_arg15 := by
  have e : ∀ a, win1_16.index t1_0 a = 0 := fun _ => rfl
  funext i; blk_ext [iblk1, e]

/-- Window 17 stages its whole array. -/
theorem blk1_17 : iblk1 V c 17 t1_0 = V c main_v23 := by
  have e : ∀ a, win1_17.index t1_0 a = 0 := fun _ => rfl
  funext i; blk_ext [iblk1, e]

/-- Window 18 stages its whole array. -/
theorem blk1_18 : iblk1 V c 18 t1_0 = V c main_v24 := by
  have e : ∀ a, win1_18.index t1_0 a = 0 := fun _ => rfl
  funext i; blk_ext [iblk1, e]

/-- Window 19 stages its whole array. -/
theorem blk1_19 : iblk1 V c 19 t1_0 = V c main_v25 := by
  have e : ∀ a, win1_19.index t1_0 a = 0 := fun _ => rfl
  funext i; blk_ext [iblk1, e]

/-- Window 20 stages its whole array. -/
theorem blk1_20 : iblk1 V c 20 t1_0 = V c main_arg19 := by
  have e : ∀ a, win1_20.index t1_0 a = 0 := fun _ => rfl
  funext i; blk_ext [iblk1, e]

/-- Window 21 stages its whole array. -/
theorem blk1_21 : iblk1 V c 21 t1_0 = V c main_v26 := by
  have e : ∀ a, win1_21.index t1_0 a = 0 := fun _ => rfl
  funext i; blk_ext [iblk1, e]

/-- Window 22 stages its whole array. -/
theorem blk1_22 : iblk1 V c 22 t1_0 = V c main_arg21 := by
  have e : ∀ a, win1_22.index t1_0 a = 0 := fun _ => rfl
  funext i; blk_ext [iblk1, e]

/-- Window 23 stages its whole array. -/
theorem blk1_23 : iblk1 V c 23 t1_0 = V c main_v27 := by
  have e : ∀ a, win1_23.index t1_0 a = 0 := fun _ => rfl
  funext i; blk_ext [iblk1, e]

/-- Window 24 stages its whole array. -/
theorem blk1_24 : iblk1 V c 24 t1_0 = V c main_v28 := by
  have e : ∀ a, win1_24.index t1_0 a = 0 := fun _ => rfl
  funext i; blk_ext [iblk1, e]

/-- Window 25 stages its whole array. -/
theorem blk1_25 : iblk1 V c 25 t1_0 = V c main_v29 := by
  have e : ∀ a, win1_25.index t1_0 a = 0 := fun _ => rfl
  funext i; blk_ext [iblk1, e]

/-- Window 26 stages its whole array. -/
theorem blk1_26 : iblk1 V c 26 t1_0 = V c main_v9 := by
  have e : ∀ a, win1_26.index t1_0 a = 0 := fun _ => rfl
  funext i; blk_ext [iblk1, e]

/-- Window 27 stages its whole array. -/
theorem blk1_27 : iblk1 V c 27 t1_0 = V c main_v30 := by
  have e : ∀ a, win1_27.index t1_0 a = 0 := fun _ => rfl
  funext i; blk_ext [iblk1, e]

/-- Window 28 stages its whole array. -/
theorem blk1_28 : iblk1 V c 28 t1_0 = V c main_v11 := by
  have e : ∀ a, win1_28.index t1_0 a = 0 := fun _ => rfl
  funext i; blk_ext [iblk1, e]

/-- Window 29 stages its whole array. -/
theorem blk1_29 : iblk1 V c 29 t1_0 = V c main_v31 := by
  have e : ∀ a, win1_29.index t1_0 a = 0 := fun _ => rfl
  funext i; blk_ext [iblk1, e]

/-- The region's result array. -/
theorem final1 : (dat1 V c).arrAt 30 cfg1.N = out1_30 (V c main_v7) (V c main_v8) (V c main_arg1) (V c main_v13) (V c main_v14) (V c main_v15) (V c main_v16) (V c main_v17) (V c main_arg7) (V c main_v18) (V c main_arg9) (V c main_v19) (V c main_v20) (V c main_v21) (V c main_arg13) (V c main_v22) (V c main_arg15) (V c main_v23) (V c main_v24) (V c main_v25) (V c main_arg19) (V c main_v26) (V c main_arg21) (V c main_v27) (V c main_v28) (V c main_v29) (V c main_v9) (V c main_v30) (V c main_v11) (V c main_v31) := by
  have e : ∀ a, win1_30.index t1_0 a = 0 := fun _ => rfl
  refine (dat1 V c).arrAt_eq_of_after_last 30 t1_0 (by decide +kernel) _ fun j => ?_
  blk_simp
  rw [after1_30]
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19, blk1_20, blk1_21, blk1_22, blk1_23, blk1_24, blk1_25, blk1_26, blk1_27, blk1_28, blk1_29]
  blk_ext [e]

end Cert.Fronts.Ker

end
-- ==== Proof.FrontSpec.lean ====
/- What both programs compute, from the rows of densities and of coordinates and the network's parameters. -/
module

public import proofs.«01_k».proof.Proof.FrontRow
public import proofs.«01_k».proof.Proof.MlpRow

@[expose] public section

noncomputable section

namespace Cert.Fronts

open Idealize.ShloMosaic

/-- The position of the `k`-th front of row `b`. -/
abbrev place (d c : Fin 128 → Fin 8192 → EReal) (b : Fin 128) (k : Fin 8) : Fin 8192 := pickAt (score (d b) (c b)) k.val

/-- The first result at row `b`, channel `ch` and front `k`: the network's two outputs, the values left and right of
    the front, its coordinate, and one. -/
def outAt (p : Params) (d c : Fin 128 → Fin 8192 → EReal) (b : Fin 128) (ch : Fin 6) (k : Fin 8) : EReal :=
  match ch with
  | 0 => net p (d b (place d c b k)) (nxt (d b) (place d c b k)) 0
  | 1 => net p (d b (place d c b k)) (nxt (d b) (place d c b k)) 1
  | 2 => d b (place d c b k)
  | 3 => nxt (d b) (place d c b k)
  | 4 => mid (c b) (place d c b k)
  | 5 => 1

/-- Every row has at least eight fronts at a coordinate below the top. -/
def EightFronts (d c : Fin 128 → Fin 8192 → EReal) : Prop :=
  ∀ b, 8 ≤ (Finset.univ.filter fun l => score (d b) (c b) l < ⊤).card

/-- Then the score selected in each of the eight rounds is below the top. -/
theorem EightFronts.rest_lt {d c : Fin 128 → Fin 8192 → EReal} (h : EightFronts d c) (b : Fin 128) (k : Fin 8) :
    rest (score (d b) (c b)) k.val (place d c b k) < ⊤ :=
  rest_pickAt_lt_top _ (h b) k.val k.isLt

/-- And there is a front at each place. -/
theorem EightFronts.isFront {d c : Fin 128 → Fin 8192 → EReal} (h : EightFronts d c) (b : Fin 128) (k : Fin 8) :
    IsFront (d b) (place d c b k) :=
  isFront_of_lt _ (c b) _ (pickAt_lt_top _ (h b) k.val k.isLt)

end Cert.Fronts

end
-- ==== Proof.KernelRun.lean ====
/- The buffers at the boundaries of the kernel's run, down to its arguments: what each launch is given and what the
   results hold. -/
module

public import proofs.«01_k».proof.Proof.Fold
public import proofs.«01_k».proof.Proof.RunIdeal
public import proofs.«01_k».proof.Proof.FrontOut
public import proofs.«01_k».proof.Proof.MlpOut
public import proofs.«01_k».proof.Proof.FrontSpec

@[expose] public section

set_option maxRecDepth 16384

noncomputable section

namespace Cert.Fronts.Ker

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The densities, by row, in the first argument. -/
abbrev dens (b : Fin 128) (l : Fin 8192) : EReal := m ((c : Thread nD τ).loc main_arg0) (ix3 b 0 l)

/-- The coordinates, by row, in the first argument. -/
abbrev coor (b : Fin 128) (l : Fin 8192) : EReal := m ((c : Thread nD τ).loc main_arg0) (ix3 b 1 l)

/-- The network's parameters in the other arguments. -/
def argParams : Params where
  Win := fun x j => m ((c : Thread nD τ).loc main_arg1) (ix2 x j)
  bin := fun j => m ((c : Thread nD τ).loc main_arg2) (ix1 j)
  gin := fun j => m ((c : Thread nD τ).loc main_arg3) (ix1 j)
  bein := fun j => m ((c : Thread nD τ).loc main_arg4) (ix1 j)
  g1 := fun j => m ((c : Thread nD τ).loc main_arg5) (ix1 j)
  be1 := fun j => m ((c : Thread nD τ).loc main_arg6) (ix1 j)
  W1a := fun x j => m ((c : Thread nD τ).loc main_arg7) (ix2 x j)
  b1a := fun j => m ((c : Thread nD τ).loc main_arg8) (ix1 j)
  W1b := fun x j => m ((c : Thread nD τ).loc main_arg9) (ix2 x j)
  b1b := fun j => m ((c : Thread nD τ).loc main_arg10) (ix1 j)
  g2 := fun j => m ((c : Thread nD τ).loc main_arg11) (ix1 j)
  be2 := fun j => m ((c : Thread nD τ).loc main_arg12) (ix1 j)
  W2a := fun x j => m ((c : Thread nD τ).loc main_arg13) (ix2 x j)
  b2a := fun j => m ((c : Thread nD τ).loc main_arg14) (ix1 j)
  W2b := fun x j => m ((c : Thread nD τ).loc main_arg15) (ix2 x j)
  b2b := fun j => m ((c : Thread nD τ).loc main_arg16) (ix1 j)
  g3 := fun j => m ((c : Thread nD τ).loc main_arg17) (ix1 j)
  be3 := fun j => m ((c : Thread nD τ).loc main_arg18) (ix1 j)
  W3a := fun x j => m ((c : Thread nD τ).loc main_arg19) (ix2 x j)
  b3a := fun j => m ((c : Thread nD τ).loc main_arg20) (ix1 j)
  W3b := fun x j => m ((c : Thread nD τ).loc main_arg21) (ix2 x j)
  b3b := fun j => m ((c : Thread nD τ).loc main_arg22) (ix1 j)
  gh := fun j => m ((c : Thread nD τ).loc main_arg23) (ix1 j)
  beh := fun j => m ((c : Thread nD τ).loc main_arg24) (ix1 j)
  Wh1 := fun x j => m ((c : Thread nD τ).loc main_arg25) (ix2 x j)
  bh1 := fun j => m ((c : Thread nD τ).loc main_arg26) (ix1 j)
  Wh2 := fun x j => m ((c : Thread nD τ).loc main_arg27) (ix2 x j)
  bh2 := fun j => m ((c : Thread nD τ).loc main_arg28) (ix1 j)

/-- The first launch is given the rows of densities. -/
theorem dens_eq (b : Fin 128) : arrRow (V1 m ρ c main_v1) b = dens m c b := funext fun l => v1_at (W0 m ρ c) b l

/-- And the rows of coordinates. -/
theorem coor_eq (b : Fin 128) : arrRow (V1 m ρ c main_v3) b = coor m c b := funext fun l => v3_at (W0 m ρ c) b l

/-! ## The second launch's parameters -/

/-- Argument 1 is given as it is. -/
theorem arg1_mat : matOf (V11 m ρ c main_arg1) = fun x j => (m ((c : Thread nD τ).loc main_arg1) (ix2 x j) : EReal) :=
  funext fun x => funext fun j => congrFun (W11_args m ρ c main_arg1 (by decide)) (ix2 x j)
/-- Argument 7 is given as it is. -/
theorem arg7_mat : matOf (V11 m ρ c main_arg7) = fun x j => (m ((c : Thread nD τ).loc main_arg7) (ix2 x j) : EReal) :=
  funext fun x => funext fun j => congrFun (W11_args m ρ c main_arg7 (by decide)) (ix2 x j)
/-- Argument 9 is given as it is. -/
theorem arg9_mat : matOf (V11 m ρ c main_arg9) = fun x j => (m ((c : Thread nD τ).loc main_arg9) (ix2 x j) : EReal) :=
  funext fun x => funext fun j => congrFun (W11_args m ρ c main_arg9 (by decide)) (ix2 x j)
/-- Argument 13 is given as it is. -/
theorem arg13_mat : matOf (V11 m ρ c main_arg13) = fun x j => (m ((c : Thread nD τ).loc main_arg13) (ix2 x j) : EReal) :=
  funext fun x => funext fun j => congrFun (W11_args m ρ c main_arg13 (by decide)) (ix2 x j)
/-- Argument 15 is given as it is. -/
theorem arg15_mat : matOf (V11 m ρ c main_arg15) = fun x j => (m ((c : Thread nD τ).loc main_arg15) (ix2 x j) : EReal) :=
  funext fun x => funext fun j => congrFun (W11_args m ρ c main_arg15 (by decide)) (ix2 x j)
/-- Argument 19 is given as it is. -/
theorem arg19_mat : matOf (V11 m ρ c main_arg19) = fun x j => (m ((c : Thread nD τ).loc main_arg19) (ix2 x j) : EReal) :=
  funext fun x => funext fun j => congrFun (W11_args m ρ c main_arg19 (by decide)) (ix2 x j)
/-- Argument 21 is given as it is. -/
theorem arg21_mat : matOf (V11 m ρ c main_arg21) = fun x j => (m ((c : Thread nD τ).loc main_arg21) (ix2 x j) : EReal) :=
  funext fun x => funext fun j => congrFun (W11_args m ρ c main_arg21 (by decide)) (ix2 x j)
/-- Argument 2 is given as one row. -/
theorem v13_row : rowOf (V11 m ρ c main_v13) 0 = fun j => (m ((c : Thread nD τ).loc main_arg2) (ix1 j) : EReal) :=
  funext fun j => (v13_at (W10 m ρ c) j).trans (congrFun (W10_args m ρ c main_arg2 (by decide)) (ix1 j))
/-- Argument 3 is given as one row. -/
theorem v14_row : rowOf (V11 m ρ c main_v14) 0 = fun j => (m ((c : Thread nD τ).loc main_arg3) (ix1 j) : EReal) :=
  funext fun j => (v14_at (W10 m ρ c) j).trans (congrFun (W10_args m ρ c main_arg3 (by decide)) (ix1 j))
/-- Argument 4 is given as one row. -/
theorem v15_row : rowOf (V11 m ρ c main_v15) 0 = fun j => (m ((c : Thread nD τ).loc main_arg4) (ix1 j) : EReal) :=
  funext fun j => (v15_at (W10 m ρ c) j).trans (congrFun (W10_args m ρ c main_arg4 (by decide)) (ix1 j))
/-- Argument 5 is given as one row. -/
theorem v16_row : rowOf (V11 m ρ c main_v16) 0 = fun j => (m ((c : Thread nD τ).loc main_arg5) (ix1 j) : EReal) :=
  funext fun j => (v16_at (W10 m ρ c) j).trans (congrFun (W10_args m ρ c main_arg5 (by decide)) (ix1 j))
/-- Argument 6 is given as one row. -/
theorem v17_row : rowOf (V11 m ρ c main_v17) 0 = fun j => (m ((c : Thread nD τ).loc main_arg6) (ix1 j) : EReal) :=
  funext fun j => (v17_at (W10 m ρ c) j).trans (congrFun (W10_args m ρ c main_arg6 (by decide)) (ix1 j))
/-- Argument 8 is given as one row. -/
theorem v18_row : rowOf (V11 m ρ c main_v18) 0 = fun j => (m ((c : Thread nD τ).loc main_arg8) (ix1 j) : EReal) :=
  funext fun j => (v18_at (W10 m ρ c) j).trans (congrFun (W10_args m ρ c main_arg8 (by decide)) (ix1 j))
/-- Argument 10 is given as one row. -/
theorem v19_row : rowOf (V11 m ρ c main_v19) 0 = fun j => (m ((c : Thread nD τ).loc main_arg10) (ix1 j) : EReal) :=
  funext fun j => (v19_at (W10 m ρ c) j).trans (congrFun (W10_args m ρ c main_arg10 (by decide)) (ix1 j))
/-- Argument 11 is given as one row. -/
theorem v20_row : rowOf (V11 m ρ c main_v20) 0 = fun j => (m ((c : Thread nD τ).loc main_arg11) (ix1 j) : EReal) :=
  funext fun j => (v20_at (W10 m ρ c) j).trans (congrFun (W10_args m ρ c main_arg11 (by decide)) (ix1 j))
/-- Argument 12 is given as one row. -/
theorem v21_row : rowOf (V11 m ρ c main_v21) 0 = fun j => (m ((c : Thread nD τ).loc main_arg12) (ix1 j) : EReal) :=
  funext fun j => (v21_at (W10 m ρ c) j).trans (congrFun (W10_args m ρ c main_arg12 (by decide)) (ix1 j))
/-- Argument 14 is given as one row. -/
theorem v22_row : rowOf (V11 m ρ c main_v22) 0 = fun j => (m ((c : Thread nD τ).loc main_arg14) (ix1 j) : EReal) :=
  funext fun j => (v22_at (W10 m ρ c) j).trans (congrFun (W10_args m ρ c main_arg14 (by decide)) (ix1 j))
/-- Argument 16 is given as one row. -/
theorem v23_row : rowOf (V11 m ρ c main_v23) 0 = fun j => (m ((c : Thread nD τ).loc main_arg16) (ix1 j) : EReal) :=
  funext fun j => (v23_at (W10 m ρ c) j).trans (congrFun (W10_args m ρ c main_arg16 (by decide)) (ix1 j))
/-- Argument 17 is given as one row. -/
theorem v24_row : rowOf (V11 m ρ c main_v24) 0 = fun j => (m ((c : Thread nD τ).loc main_arg17) (ix1 j) : EReal) :=
  funext fun j => (v24_at (W10 m ρ c) j).trans (congrFun (W10_args m ρ c main_arg17 (by decide)) (ix1 j))
/-- Argument 18 is given as one row. -/
theorem v25_row : rowOf (V11 m ρ c main_v25) 0 = fun j => (m ((c : Thread nD τ).loc main_arg18) (ix1 j) : EReal) :=
  funext fun j => (v25_at (W10 m ρ c) j).trans (congrFun (W10_args m ρ c main_arg18 (by decide)) (ix1 j))
/-- Argument 20 is given as one row. -/
theorem v26_row : rowOf (V11 m ρ c main_v26) 0 = fun j => (m ((c : Thread nD τ).loc main_arg20) (ix1 j) : EReal) :=
  funext fun j => (v26_at (W10 m ρ c) j).trans (congrFun (W10_args m ρ c main_arg20 (by decide)) (ix1 j))
/-- Argument 22 is given as one row. -/
theorem v27_row : rowOf (V11 m ρ c main_v27) 0 = fun j => (m ((c : Thread nD τ).loc main_arg22) (ix1 j) : EReal) :=
  funext fun j => (v27_at (W10 m ρ c) j).trans (congrFun (W10_args m ρ c main_arg22 (by decide)) (ix1 j))
/-- Argument 23 is given as one row. -/
theorem v28_row : rowOf (V11 m ρ c main_v28) 0 = fun j => (m ((c : Thread nD τ).loc main_arg23) (ix1 j) : EReal) :=
  funext fun j => (v28_at (W10 m ρ c) j).trans (congrFun (W10_args m ρ c main_arg23 (by decide)) (ix1 j))
/-- Argument 24 is given as one row. -/
theorem v29_row : rowOf (V11 m ρ c main_v29) 0 = fun j => (m ((c : Thread nD τ).loc main_arg24) (ix1 j) : EReal) :=
  funext fun j => (v29_at (W10 m ρ c) j).trans (congrFun (W10_args m ρ c main_arg24 (by decide)) (ix1 j))
/-- Argument 25 is given padded. -/
theorem v9_mat : (fun (x : Fin 128) (i : Fin 64) => matOf (V11 m ρ c main_v9) x (i.castLE (by decide))) =
    fun x j => (m ((c : Thread nD τ).loc main_arg25) (ix2 x j) : EReal) :=
  funext fun x => funext fun j => (congrFun ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans (W5_of m ρ c main_v9 (by decide)))))))) _).trans
    ((v9_at (W3 m ρ c) x j).trans (congrFun (W3_args m ρ c main_arg25 (by decide)) (ix2 x j)))
/-- Argument 26 is given padded, as one row. -/
theorem v30_row : (fun i : Fin 64 => rowOf (V11 m ρ c main_v30) 0 (i.castLE (by decide))) =
    fun j => (m ((c : Thread nD τ).loc main_arg26) (ix1 j) : EReal) :=
  funext fun j => (v30_at (W10 m ρ c) (j.castLE (by decide))).trans ((congrFun ((W10_of m ρ c main_v10 (by decide)).trans ((W9_of m ρ c main_v10 (by decide)).trans ((W8_of m ρ c main_v10 (by decide)).trans (W7_of m ρ c main_v10 (by decide))))) _).trans
    ((v10_at (W5 m ρ c) j).trans (congrFun (W5_args m ρ c main_arg26 (by decide)) (ix1 j))))
/-- Argument 27 is given padded. -/
theorem v11_mat : (fun (i : Fin 64) (j : Fin 2) => matOf (V11 m ρ c main_v11) (i.castLE (by decide)) (j.castLE (by decide))) =
    fun x j => (m ((c : Thread nD τ).loc main_arg27) (ix2 x j) : EReal) :=
  funext fun i => funext fun j => (congrFun ((W11_of m ρ c main_v11 (by decide)).trans ((W10_of m ρ c main_v11 (by decide)).trans (W9_of m ρ c main_v11 (by decide)))) _).trans
    ((v11_at (W7 m ρ c) i j).trans (congrFun (W7_args m ρ c main_arg27 (by decide)) (ix2 i j)))
/-- With zeros below. -/
theorem v11_zero (i j : Fin 128) (hi : 64 ≤ i.val) : matOf (V11 m ρ c main_v11) i j = 0 :=
  (congrFun ((W11_of m ρ c main_v11 (by decide)).trans ((W10_of m ρ c main_v11 (by decide)).trans (W9_of m ρ c main_v11 (by decide)))) _).trans
    ((v11_low (W7 m ρ c) i j hi).trans ((congrArg (fun w : BitVec 32 => (FloatOps.sitofp (F := Ideal) .f32 w : EReal))
      (congrFun (c_1_eq (W6 m ρ c)) ix0)).trans (by show (((0#32 : BitVec 32).toInt : ℝ) : EReal) = 0; simp)))
/-- Argument 28 is given padded, as one row. -/
theorem v31_row : (fun j : Fin 2 => rowOf (V11 m ρ c main_v31) 0 (j.castLE (by decide))) =
    fun j => (m ((c : Thread nD τ).loc main_arg28) (ix1 j) : EReal) :=
  funext fun j => (v31_at (W10 m ρ c) (j.castLE (by decide))).trans
    ((v12_at (W9 m ρ c) j).trans (congrFun (W9_args m ρ c main_arg28 (by decide)) (ix1 j)))

/-- The second launch is given the arguments' parameters. -/
theorem params_eq : params (V11 m ρ) c = argParams m c := by
  have h := congrArg Params.mk (arg1_mat m ρ c)
  replace h := congr h (v13_row m ρ c)
  replace h := congr h (v14_row m ρ c)
  replace h := congr h (v15_row m ρ c)
  replace h := congr h (v16_row m ρ c)
  replace h := congr h (v17_row m ρ c)
  replace h := congr h (arg7_mat m ρ c)
  replace h := congr h (v18_row m ρ c)
  replace h := congr h (arg9_mat m ρ c)
  replace h := congr h (v19_row m ρ c)
  replace h := congr h (v20_row m ρ c)
  replace h := congr h (v21_row m ρ c)
  replace h := congr h (arg13_mat m ρ c)
  replace h := congr h (v22_row m ρ c)
  replace h := congr h (arg15_mat m ρ c)
  replace h := congr h (v23_row m ρ c)
  replace h := congr h (v24_row m ρ c)
  replace h := congr h (v25_row m ρ c)
  replace h := congr h (arg19_mat m ρ c)
  replace h := congr h (v26_row m ρ c)
  replace h := congr h (arg21_mat m ρ c)
  replace h := congr h (v27_row m ρ c)
  replace h := congr h (v28_row m ρ c)
  replace h := congr h (v29_row m ρ c)
  replace h := congr h (v9_mat m ρ c)
  replace h := congr h (v30_row m ρ c)
  replace h := congr h (v11_mat m ρ c)
  replace h := congr h (v31_row m ρ c)
  exact h

/-! ## What the first launch leaves, to the end -/

/-- The values left of the fronts, as the first launch leaves them. -/
theorem w2_0 (b : Fin 128) (k : Fin 8) : (W2 m ρ c (Proc.devRef .tc main_v4_0) (ix2 b k) : EReal) = dens m c b (place (dens m c) (coor m c) b k) := by
  refine (congrFun ((W2_arr m ρ c 2).trans (final0_2 (V1 m ρ) c)) (ix2 b k)).trans ?_
  show arrRow (V1 m ρ c main_v1) b (pickAt (score (arrRow (V1 m ρ c main_v1) b) (arrRow (V1 m ρ c main_v3) b)) k.val) = _
  rw [dens_eq, coor_eq]
/-- The values right of the fronts, as the first launch leaves them. -/
theorem w2_1 (b : Fin 128) (k : Fin 8) : (W2 m ρ c (Proc.devRef .tc main_v4_1) (ix2 b k) : EReal) = nxt (dens m c b) (place (dens m c) (coor m c) b k) := by
  refine (congrFun ((W2_arr m ρ c 3).trans (final0_3 (V1 m ρ) c)) (ix2 b k)).trans ?_
  show nxt (arrRow (V1 m ρ c main_v1) b) (pickAt (score (arrRow (V1 m ρ c main_v1) b) (arrRow (V1 m ρ c main_v3) b)) k.val) = _
  rw [dens_eq, coor_eq]
/-- The fronts' coordinates, as the first launch leaves them. -/
theorem w2_2 (b : Fin 128) (k : Fin 8) : (W2 m ρ c (Proc.devRef .tc main_v4_2) (ix2 b k) : EReal) = mid (coor m c b) (place (dens m c) (coor m c) b k) := by
  refine (congrFun ((W2_arr m ρ c 4).trans (final0_4 (V1 m ρ) c)) (ix2 b k)).trans ?_
  show mid (arrRow (V1 m ρ c main_v3) b) (pickAt (score (arrRow (V1 m ρ c main_v1) b) (arrRow (V1 m ρ c main_v3) b)) k.val) = _
  rw [dens_eq, coor_eq]
/-- Every mark is one when each row has eight fronts. -/
theorem w2_3 (h : EightFronts (dens m c) (coor m c)) (b : Fin 128) (k : Fin 8) :
    (W2 m ρ c (Proc.devRef .tc main_v4_3) (ix2 b k) : EReal) = (1 : EReal) := by
  refine congrFun ((W2_arr m ρ c 5).trans (final0_5 (V1 m ρ) c fun b k => ?_)) (ix2 b k)
  show rest (score (arrRow (V1 m ρ c main_v1) b) (arrRow (V1 m ρ c main_v3) b)) k.val
    (pickAt (score (arrRow (V1 m ρ c main_v1) b) (arrRow (V1 m ρ c main_v3) b)) k.val) < ⊤
  rw [dens_eq, coor_eq]
  exact h.rest_lt b k
/-- The counts, in every column. -/
theorem w2_4 (b : Fin 128) (k : Fin 8) : (W2 m ρ c (Proc.devRef .tc main_v4_4) (ix2 b k) : BitVec 32) = frontCount (dens m c b) := by
  refine (congrFun ((W2_arr m ρ c 6).trans (final0_6 (V1 m ρ) c)) (ix2 b k)).trans ?_
  show frontCount (arrRow (V1 m ρ c main_v1) b) = _
  rw [dens_eq]

/-! ## The results -/

/-- THE KERNEL'S SECOND RESULT: the number of fronts of each row. -/
theorem counts_at (b : Fin 128) : (W13 m ρ c (Proc.devRef .tc main_v6) (ix1 b) : BitVec 32) = frontCount (dens m c b) :=
  (congrFun ((W13_of m ρ c main_v6 (by decide)).trans ((W12_of m ρ c main_v6 (by decide)).trans
    ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans (W4_of m ρ c main_v6 (by decide))))))))))) (ix1 b)).trans
    ((v6_at (W2 m ρ c) b).trans (w2_4 m ρ c b 0))

/-- The values left of the fronts, as the second launch is given them. -/
theorem v7_left (k : Fin 8) (b : Fin 128) : (V11 m ρ c main_v7 (ix2 k b) : EReal) = dens m c b (place (dens m c) (coor m c) b k) :=
  (congrFun ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans (W4_of m ρ c main_v7 (by decide))))))))) _).trans ((v7_at (W2 m ρ c) k b).trans (w2_0 m ρ c b k))
/-- The values right of the fronts, as the second launch is given them. -/
theorem v8_right (k : Fin 8) (b : Fin 128) : (V11 m ρ c main_v8 (ix2 k b) : EReal) = nxt (dens m c b) (place (dens m c) (coor m c) b k) :=
  (congrFun ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide))))))))) _).trans ((v8_at (W2 m ρ c) k b).trans (w2_1 m ρ c b k))

/-- The second launch's array at front `k` of row `b`: the network, when the padding's rows are zero. -/
theorem net_of_out (x0 x1 x2 x3 x4 x5 x6 x7 x8 x9 x10 x11 x12 x13 x14 x15 x16 x17 x18 x19 x20 x21 x22 x23 x24 x25 x26 x27 x28 x29) (hz : ∀ i j : Fin 128, 64 ≤ i.val → matOf x28 i j = 0)
    (b : Fin 128) (k : Fin 8) (j : Fin 2) :
    (out1_30 (F := Ideal) x0 x1 x2 x3 x4 x5 x6 x7 x8 x9 x10 x11 x12 x13 x14 x15 x16 x17 x18 x19 x20 x21 x22 x23 x24 x25 x26 x27 x28 x29
      (ix2 (netRow b k) (j.castLE (by decide))) : EReal) =
      branch (rowOf x24 0) (rowOf x25 0) (fun x (i : Fin 64) => matOf x26 x (i.castLE (by decide))) (fun i => rowOf x27 0 (i.castLE (by decide)))
        (fun i j => matOf x28 (i.castLE (by decide)) (j.castLE (by decide))) (fun j => rowOf x29 0 (j.castLE (by decide)))
        (resBlock (rowOf x18 0) (rowOf x19 0) (matOf x20) (rowOf x21 0) (matOf x22) (rowOf x23 0)
          (resBlock (rowOf x12 0) (rowOf x13 0) (matOf x14) (rowOf x15 0) (matOf x16) (rowOf x17 0)
            (resBlock (rowOf x6 0) (rowOf x7 0) (matOf x8) (rowOf x9 0) (matOf x10) (rowOf x11 0)
              (stem (matOf x2) (rowOf x3 0) (rowOf x4 0) (rowOf x5 0) (x0 (ix2 k b)) (x1 (ix2 k b)))))) j := by
  refine (out_at x0 x1 x2 x3 x4 x5 x6 x7 x8 x9 x10 x11 x12 x13 x14 x15 x16 x17 x18 x19 x20 x21 x22 x23 x24 x25 x26 x27 x28 x29 _ _).trans ?_
  have ek : (⟨(netRow b k).val / 128, by omega⟩ : Fin 8) = k := Fin.ext (by show (k.val * 128 + b.val) / 128 = k.val; omega)
  have eb : (⟨(netRow b k).val % 128, by omega⟩ : Fin 128) = b := Fin.ext (by show (k.val * 128 + b.val) % 128 = b.val; omega)
  rw [ek, eb]
  exact branch_pad _ _ _ _ _ _ _ hz j

/-- The same of the array the second launch leaves. -/
theorem net_arr (V : (c : Dev nD) → (b : Ref sig .tc) → Buf (Elt Ideal) ((c : Thread nD τ).loc b)) (c : Dev nD)
    (hz : ∀ i j : Fin 128, 64 ≤ i.val → matOf (V c main_v11) i j = 0) (b : Fin 128) (k : Fin 8) (j : Fin 2) :
    ((dat1 V c).arrAt 30 cfg1.N (ix2 (netRow b k) (j.castLE (by decide))) : EReal) =
      net (params V c) (V c main_v7 (ix2 k b)) (V c main_v8 (ix2 k b)) j :=
  (congrFun (final1 V c) _).trans (net_of_out (V c main_v7) (V c main_v8) (V c main_arg1) (V c main_v13) (V c main_v14) (V c main_v15) (V c main_v16) (V c main_v17) (V c main_arg7) (V c main_v18) (V c main_arg9) (V c main_v19) (V c main_v20) (V c main_v21) (V c main_arg13) (V c main_v22) (V c main_arg15) (V c main_v23) (V c main_v24) (V c main_v25) (V c main_arg19) (V c main_v26) (V c main_arg21) (V c main_v27) (V c main_v28) (V c main_v29) (V c main_v9) (V c main_v30) (V c main_v11) (V c main_v31) hz b k j)

/-- The network's output for front `k` of row `b`. -/
theorem net_at (b : Fin 128) (k : Fin 8) (j : Fin 2) :
    (W12 m ρ c (Proc.devRef .tc main_v32) (ix2 (netRow b k) (j.castLE (by decide))) : EReal) =
      net (argParams m c) (dens m c b (place (dens m c) (coor m c) b k)) (nxt (dens m c b) (place (dens m c) (coor m c) b k)) j :=
  ((congrFun (W12_arr m ρ c 30) _).trans (net_arr (V11 m ρ) c (v11_zero m ρ c) b k j)).trans
    (congrFun (congr (congr (congrArg net (params_eq m ρ c)) (v7_left m ρ c k b)) (v8_right m ρ c k b)) j)

/-- THE KERNEL'S FIRST RESULT. -/
theorem result_at (h : EightFronts (dens m c) (coor m c)) (b : Fin 128) (ch : Fin 6) (k : Fin 8) :
    (W13 m ρ c (Proc.devRef .tc main_v40) (ix3 b ch k) : EReal) = outAt (argParams m c) (dens m c) (coor m c) b ch k := by
  refine (v40_at (W12 m ρ c) b ch k).trans ?_
  match ch with
  | 0 => exact net_at m ρ c b k 0
  | 1 => exact net_at m ρ c b k 1
  | 2 => exact (congrFun ((W12_of m ρ c main_v4_0 (by decide)).trans ((W11_of m ρ c main_v4_0 (by decide)).trans ((W10_of m ρ c main_v4_0 (by decide)).trans ((W9_of m ρ c main_v4_0 (by decide)).trans ((W8_of m ρ c main_v4_0 (by decide)).trans ((W7_of m ρ c main_v4_0 (by decide)).trans ((W6_of m ρ c main_v4_0 (by decide)).trans ((W5_of m ρ c main_v4_0 (by decide)).trans ((W4_of m ρ c main_v4_0 (by decide)).trans (W3_of m ρ c main_v4_0 (by decide))))))))))) _).trans (w2_0 m ρ c b k)
  | 3 => exact (congrFun ((W12_of m ρ c main_v4_1 (by decide)).trans ((W11_of m ρ c main_v4_1 (by decide)).trans ((W10_of m ρ c main_v4_1 (by decide)).trans ((W9_of m ρ c main_v4_1 (by decide)).trans ((W8_of m ρ c main_v4_1 (by decide)).trans ((W7_of m ρ c main_v4_1 (by decide)).trans ((W6_of m ρ c main_v4_1 (by decide)).trans ((W5_of m ρ c main_v4_1 (by decide)).trans ((W4_of m ρ c main_v4_1 (by decide)).trans (W3_of m ρ c main_v4_1 (by decide))))))))))) _).trans (w2_1 m ρ c b k)
  | 4 => exact (congrFun ((W12_of m ρ c main_v4_2 (by decide)).trans ((W11_of m ρ c main_v4_2 (by decide)).trans ((W10_of m ρ c main_v4_2 (by decide)).trans ((W9_of m ρ c main_v4_2 (by decide)).trans ((W8_of m ρ c main_v4_2 (by decide)).trans ((W7_of m ρ c main_v4_2 (by decide)).trans ((W6_of m ρ c main_v4_2 (by decide)).trans ((W5_of m ρ c main_v4_2 (by decide)).trans ((W4_of m ρ c main_v4_2 (by decide)).trans (W3_of m ρ c main_v4_2 (by decide))))))))))) _).trans (w2_2 m ρ c b k)
  | 5 => exact (congrFun ((W12_of m ρ c main_v4_3 (by decide)).trans ((W11_of m ρ c main_v4_3 (by decide)).trans ((W10_of m ρ c main_v4_3 (by decide)).trans ((W9_of m ρ c main_v4_3 (by decide)).trans ((W8_of m ρ c main_v4_3 (by decide)).trans ((W7_of m ρ c main_v4_3 (by decide)).trans ((W6_of m ρ c main_v4_3 (by decide)).trans ((W5_of m ρ c main_v4_3 (by decide)).trans ((W4_of m ρ c main_v4_3 (by decide)).trans (W3_of m ρ c main_v4_3 (by decide))))))))))) _).trans (w2_3 m ρ c h b k)

end Cert.Fronts.Ker

end
-- ==== Proof.TopRow.lean ====
/- Two host operations on a matrix of rows, read at one row: the positions of a row's greatest entries, and the entries of
   a row at given positions. -/
module

public import Idealize.ShloMosaic.Lib.ValueIdxCore
public import Idealize.ShloMosaic.Lib.SortPrefix
public import Idealize.ShloMosaic.PureOps.ShapeOps

@[expose] public section

set_option maxRecDepth 16384

namespace Cert.Fronts

open Idealize.ShloMosaic Idealize.ShloMosaic.ValueIdx

variable {α : Type}

/-- Replacing the column of a matrix index. -/
theorem along_ix2 {n m : Nat} (b : Fin n) (k p : Fin m) :
    Shape.Idx.along (s := ⟨2, ![n, m]⟩) (ix2 b k) 1 p = ix2 b p := by
  funext a
  match a with
  | 0 => rfl
  | 1 => rfl

/-- THE POSITIONS OF A ROW'S GREATEST ENTRIES: at row `b` and place `k` the `k`-th position of the row's stable sort. -/
theorem topK_at {n m K : Nat} (gt : α → α → BitVec 1) (x : (⟨2, ![n, m]⟩ : Shape).Idx → α)
    (h : (⟨2, ![n, m]⟩ : Shape).Slices (fun _ => 0) ⟨2, ![n, K]⟩) (hK : K ≤ m) (b : Fin n) (k : Fin K) :
    (Host.topK ⟨2, ![n, K]⟩ 1 gt x h).2 (ix2 b k)
      = BitVec.ofNat 32 (sortedFrom (fun p q => gt (x (ix2 b p)) (x (ix2 b q)) == 1#1) (k.castLE hK)).val := by
  have e : ∀ (j : (⟨2, ![n, m]⟩ : Shape).Idx) (p : Fin m), j 0 = b → Shape.Idx.along j 1 p = ix2 b p := by
    intro j p hj
    funext a
    match a with
    | 0 => exact hj
    | 1 => rfl
  have key : ∀ j : (⟨2, ![n, m]⟩ : Shape).Idx, j 0 = b → (j 1).val = k.val →
      (Host.sort2 ⟨2, ![n, m]⟩ 1 (fun l r : α × BitVec 32 => gt l.1 r.1) x
        (fun i => if hd : 1 < 2 then iotaInDim ⟨2, ![n, m]⟩ 32 ⟨1, hd⟩ i else 0#32)).2 j
        = BitVec.ofNat 32 (sortedFrom (fun p q => gt (x (ix2 b p)) (x (ix2 b q)) == 1#1) (k.castLE hK)).val := by
    intro j hj hk
    unfold Host.sort2
    rw [dif_pos (show 1 < (⟨2, ![n, m]⟩ : Shape).rank from Nat.lt_succ_self 1)]
    have e1 : j 1 = k.castLE hK := Fin.ext hk
    show BitVec.ofNat 32 (sortedFrom (fun p q : Fin m => gt (x (Shape.Idx.along j 1 p)) (x (Shape.Idx.along j 1 q)) == 1#1) (j 1)).val = _
    simp only [e j _ hj]
    rw [e1]
  refine key _ ?_ ?_
  · exact Fin.ext (Nat.zero_add _)
  · exact Nat.zero_add _

/-- The dimension numbers of reading each row at the positions given for it. -/
abbrev rowTakeDims (n m K : Nat)
    (wf : GatherDims.WF ⟨2, ![n, m]⟩ ⟨3, ![n, K, 1]⟩ ⟨2, ![n, K]⟩ [] [1] [0] [1] [0] 2 ![1, 1]) :
    GatherDims ⟨2, ![n, m]⟩ ⟨3, ![n, K, 1]⟩ ⟨2, ![n, K]⟩ where
  offsetDims := []
  collapsedSliceDims := [1]
  operandBatchingDims := [0]
  startIndicesBatchingDims := [0]
  startIndexMap := [1]
  indexVectorDim := 2
  sliceSizes := ![1, 1]
  wf := wf

/-- THE ENTRIES OF A ROW AT GIVEN POSITIONS: at row `b` and place `k` the row's entry at the position given there, a
    number in range. -/
theorem rowTake_at {n m K : Nat} (wf : GatherDims.WF ⟨2, ![n, m]⟩ ⟨3, ![n, K, 1]⟩ ⟨2, ![n, K]⟩ [] [1] [0] [1] [0] 2 ![1, 1])
    (x : (⟨2, ![n, m]⟩ : Shape).Idx → α) (idx : IVec ⟨3, ![n, K, 1]⟩ 32) (b : Fin n) (k : Fin K) (p : Fin m)
    (hp : (idx (ix3 b k 0)).toInt.toNat = p.val) :
    Host.gather (rowTakeDims n m K wf) x idx (ix2 b k) = x (ix2 b p) := by
  unfold Host.gather
  congr 1
  funext a
  refine Fin.ext ?_
  show (rowTakeDims n m K wf).start (ix2 b k) idx a + (rowTakeDims n m K wf).batchCoord (ix2 b k) a
      + (rowTakeDims n m K wf).offCoord (ix2 b k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims n m K wf).startIndexMap from List.mem_singleton.mpr rfl)]
    have hsi : (rowTakeDims n m K wf).siIdx (ix2 b k) ⟨List.idxOf (1 : Fin 2) (rowTakeDims n m K wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    rw [hsi, hp]
    show min p.val (m - 1) = p.val
    have := p.isLt
    omega

end Cert.Fronts
-- ==== Proof.FrontRef.lean ====
/- The reference's front finder read row by row: the positions it takes are the ones selected round by round. -/
module

public import proofs.«01_k».proof.Proof.FrontRow
public import proofs.«01_k».proof.Proof.TopRow
public import proofs.«01_k».proof.Proof.MlpRow
public import proofs.«01_k».proof.Proof.Gen.ReferenceIdeal.Run

@[expose] public section

set_option maxRecDepth 16384

noncomputable section

namespace Cert.Fronts.Ref

open Idealize.ShloMosaic Idealize.ShloMosaic.TcCoe Idealize.SL.Sem
open Cert.ReferenceIdeal Cert.ReferenceIdeal.Gen Cert.ReferenceIdeal.Value

variable (V0 : Valuation τ sig (Elt Ideal))

/-- The densities of row `b`. -/
abbrev dens (b : Fin 128) (l : Fin 8192) : EReal := res_main_v1 V0 (ix2 b l)

/-- The coordinates of row `b`. -/
abbrev coor (b : Fin 128) (l : Fin 8192) : EReal := res_main_v3 V0 (ix2 b l)

/-- A row's neighbour to the right of a position that is not the last. -/
theorem nxt_castSucc (f : Fin 8192 → EReal) (p : Fin 8191) : nxt f p.castSucc = f p.succ := by
  unfold nxt
  rw [dif_pos (show p.castSucc.val < 8191 from p.isLt)]
  rfl

/-- The left entries. -/
theorem v4_at (b : Fin 128) (p : Fin 8191) : (res_main_v4 V0 (ix2 b p) : EReal) = dens V0 b p.castSucc := by
  pointwise [res_main_v4]
  rfl

/-- The right entries. -/
theorem v5_at (b : Fin 128) (p : Fin 8191) : (res_main_v5 V0 (ix2 b p) : EReal) = nxt (dens V0 b) p.castSucc := by
  rw [nxt_castSucc]
  pointwise [res_main_v5]
  exact congrArg (dens V0 b) (Fin.ext (Nat.add_comm _ _))

/-- The bits of the fronts. -/
theorem v9_at (b : Fin 128) (p : Fin 8191) :
    res_main_v9 V0 (ix2 b p) = if IsFront (dens V0 b) p.castSucc then 1#1 else 0#1 := by
  have h4 := v4_at V0 b p
  have h5 := v5_at V0 b p
  pointwise [res_main_v9]
  rw [h4, h5]
  show BitVec.ofBool (decide (thr < max (dens V0 b p.castSucc - nxt (dens V0 b) p.castSucc) (-(dens V0 b p.castSucc - nxt (dens V0 b) p.castSucc)))) = _
  by_cases h : thr < max (dens V0 b p.castSucc - nxt (dens V0 b) p.castSucc) (-(dens V0 b p.castSucc - nxt (dens V0 b) p.castSucc))
  · rw [if_pos ⟨h, p.isLt⟩, decide_eq_true h]; rfl
  · rw [if_neg (fun e => h e.1), decide_eq_false h]; rfl

/-- The half-way coordinates. -/
theorem v14_at (b : Fin 128) (p : Fin 8191) : (res_main_v14 V0 (ix2 b p) : EReal) = mid (coor V0 b) p.castSucc := by
  unfold mid
  rw [nxt_castSucc, half_eq]
  pointwise [res_main_v14]
  rw [show (⟨1 + p.val, by omega⟩ : Fin 8192) = p.succ from Fin.ext (Nat.add_comm _ _)]
  rfl

/-- The negated scores. -/
theorem v19_at (b : Fin 128) (p : Fin 8191) :
    (res_main_v19 V0 (ix2 b p) : EReal) = -score (dens V0 b) (coor V0 b) p.castSucc := by
  have h9 := v9_at V0 b p
  have h14 := v14_at V0 b p
  pointwise [res_main_v19]
  rw [h9, h14, select_ite, inf_eq]
  rfl

/-- The position the reference takes at row `b` and place `k`. -/
def taken (b : Fin 128) (k : Fin 8) : Fin 8191 :=
  sortedFrom (fun p q => FloatOps.cmpfTotal .gt (res_main_v19 V0 (ix2 b p)) (res_main_v19 V0 (ix2 b q)) == 1#1)
    (k.castLE (by decide))

/-- The words of the positions. -/
theorem indices_at (b : Fin 128) (k : Fin 8) : res_main_indices V0 (ix2 b k) = BitVec.ofNat 32 (taken V0 b k).val :=
  topK_at _ _ _ _ b k

/-- Comparing two negated numbers. -/
theorem neg_gt_iff (x y a b : EReal) (hx : x = -a) (hy : y = -b) :
    FloatOps.cmpfTotal (F := Ideal) (φ := .f32) .gt x y = 1#1 ↔ a < b := by
  subst hx hy
  show BitVec.ofBool (decide (-b < -a)) = 1#1 ↔ a < b
  have e : -b < -a ↔ a < b := EReal.neg_lt_neg_iff
  by_cases h : a < b
  · rw [decide_eq_true (e.mpr h)]; exact ⟨fun _ => h, fun _ => rfl⟩
  · rw [decide_eq_false fun h' => h (e.mp h')]; exact ⟨fun h' => absurd h' (by decide), fun h' => absurd h' h⟩

/-- While a row has eight scores below the top, the position taken is the one selected in round `k`. -/
theorem taken_eq (b : Fin 128)
    (cnt : 8 ≤ (Finset.univ.filter fun l => score (dens V0 b) (coor V0 b) l < ⊤).card) (k : Fin 8) :
    (taken V0 b k).castSucc = pickAt (score (dens V0 b) (coor V0 b)) k.val := by
  refine sortedFrom_eq_pickAt (score (dens V0 b) (coor V0 b)) cnt (score_last _ _) (by decide) _ (fun p q => ?_) k
  rw [beq_iff_eq]
  exact neg_gt_iff _ _ _ _ (v19_at V0 b p) (v19_at V0 b q)

/-- A word of a small number, read signed. -/
theorem toInt_ofNat_small (n : Nat) (h : n < 8191) : (BitVec.ofNat 32 n).toInt = (n : Int) := by
  rw [BitVec.toInt_eq_toNat_cond, BitVec.toNat_ofNat, Nat.mod_eq_of_lt (by omega), if_pos (by omega)]

/-- A small number is not wrapped around. -/
theorem wrap_small (n : Nat) (h : n < 8191) :
    Scalar.select (IntOp.cmpi .slt (BitVec.ofNat 32 n) 0#32) (IntOp.addi (BitVec.ofNat 32 n) 8191#32) (BitVec.ofNat 32 n)
      = BitVec.ofNat 32 n := by
  have e : (BitVec.ofNat 32 n).slt 0#32 = false := by
    rw [← Bool.not_eq_true, BitVec.slt_iff_toInt_lt, toInt_ofNat_small n h]
    simp
  have e' : IntOp.cmpi .slt (BitVec.ofNat 32 n) 0#32 = 0#1 := congrArg BitVec.ofBool e
  rw [e']
  rfl

/-- A small number is in range. -/
theorem inRange_small (n : Nat) (h : n < 8191) :
    IntOp.andi (IntOp.cmpi .sge (BitVec.ofNat 32 n) 0#32) (IntOp.cmpi .sle (BitVec.ofNat 32 n) 8190#32) = 1#1 := by
  have e : (0#32 : BitVec 32).sle (BitVec.ofNat 32 n) = true := by
    rw [BitVec.sle_iff_toInt_le, toInt_ofNat_small n h]
    simp
  have e' : (BitVec.ofNat 32 n).sle 8190#32 = true := by
    rw [BitVec.sle_iff_toInt_le, toInt_ofNat_small n h, show (8190#32 : BitVec 32).toInt = 8190 by decide]
    omega
  have f : IntOp.cmpi .sge (BitVec.ofNat 32 n) 0#32 = 1#1 := congrArg BitVec.ofBool e
  have f' : IntOp.cmpi .sle (BitVec.ofNat 32 n) 8190#32 = 1#1 := congrArg BitVec.ofBool e'
  rw [f, f']
  rfl

/-- A conjunction of true bits is true. -/
theorem fold_andi_true {ι : Type} (S : Finset ι) (f : ι → BitVec 1) (h : ∀ x, f x = 1#1) : S.fold IntOp.andi 1#1 f = 1#1 := by
  classical
  induction S using Finset.induction_on with
  | empty => rfl
  | insert a S ha ih => rw [Finset.fold_insert ha, ih, h]; rfl

/-- The positions as the first read takes them. -/
theorem pos1_at (b : Fin 128) (k : Fin 8) (z : Fin 1) :
    res_main_call1_v5 V0 (ix3 b k z) = BitVec.ofNat 32 (taken V0 b k).val := by
  have h := indices_at V0 b k
  pointwise [res_main_call1_v5]
  rw [h, wrap_small _ (taken V0 b k).isLt]

/-- The positions are in range throughout, so that nothing is filled in: a guarded read of a matrix's rows at the positions
    taken is the matrix there. -/
theorem guarded_read {α : Type} (idx : IVec S128x8x1 32)
    (hidx : ∀ b k z, idx (ix3 b k z) = BitVec.ofNat 32 (taken V0 b k).val) (x : S128x8191.Idx → α) (fill : S128x8.Idx → α)
    (b : Fin 128) (k : Fin 8) :
    select (Host.reduce IntOp.andi (andi (cmpi .sge idx (broadcastInDim S128x8x1 ![] bcast_S_S128x8x1 (constantI S_ 32 0#32))) (cmpi .sle idx (broadcastInDim S128x8x1 ![0, 1, 2] bcast_S1x1x1_S128x8x1_0_1_2 (broadcastInDim S1x1x1 ![2] bcast_S1_S1x1x1_2 (constantI S1 32 8190#32))))) (constantI S_ 1 1#1) reducesTo_S128x8x1_S128x8_d2 h_S_) (Host.gather gather_S128x8191_S128x8x1_S128x8_n_1_0_0_1_2_11 x idx) fill (ix2 b k)
      = x (ix2 b (taken V0 b k)) := by
  have h1 : (Host.reduce IntOp.andi (andi (cmpi .sge idx (broadcastInDim S128x8x1 ![] bcast_S_S128x8x1 (constantI S_ 32 0#32))) (cmpi .sle idx (broadcastInDim S128x8x1 ![0, 1, 2] bcast_S1x1x1_S128x8x1_0_1_2 (broadcastInDim S1x1x1 ![2] bcast_S1_S1x1x1_2 (constantI S1 32 8190#32))))) (constantI S_ 1 1#1) reducesTo_S128x8x1_S128x8_d2 h_S_) (ix2 b k) = 1#1 := by
    pointwise
    refine fold_andi_true _ _ fun x => ?_
    rw [hidx b k x]
    exact inRange_small _ (taken V0 b k).isLt
  have h2 : Host.gather gather_S128x8191_S128x8x1_S128x8_n_1_0_0_1_2_11 x idx (ix2 b k) = x (ix2 b (taken V0 b k)) := by
    refine rowTake_at _ x idx b k (taken V0 b k) ?_
    have e : idx (ValueIdx.ix3 b k 0) = BitVec.ofNat 32 (taken V0 b k).val := hidx b k 0
    rw [e, toInt_ofNat_small _ (taken V0 b k).isLt, Int.toNat_natCast]
  show Scalar.select _ _ _ = _
  rw [h1, h2]
  rfl

/-- The left values taken. -/
theorem v20_at (b : Fin 128) (k : Fin 8) :
    (res_main_v20 V0 (ix2 b k) : EReal) = dens V0 b (taken V0 b k).castSucc :=
  (guarded_read V0 (res_main_call1_v5 V0) (pos1_at V0) (res_main_v4 V0) _ b k).trans (v4_at V0 b _)

/-- The right values taken. -/
theorem v21_at (b : Fin 128) (k : Fin 8) :
    (res_main_v21 V0 (ix2 b k) : EReal) = nxt (dens V0 b) (taken V0 b k).castSucc :=
  (guarded_read V0 (res_main_call1_v5 V0) (pos1_at V0) (res_main_v5 V0) _ b k).trans (v5_at V0 b _)

/-- The half-way coordinates taken, as the run computes them. -/
def mids : FVec Ideal S128x8 .f32 :=
  select (Host.reduce IntOp.andi (andi (cmpi .sge (res_main_call3_v5 V0) (broadcastInDim S128x8x1 ![] bcast_S_S128x8x1 (constantI S_ 32 0#32))) (cmpi .sle (res_main_call3_v5 V0) (broadcastInDim S128x8x1 ![0, 1, 2] bcast_S1x1x1_S128x8x1_0_1_2 (broadcastInDim S1x1x1 ![2] bcast_S1_S1x1x1_2 (constantI S1 32 8190#32))))) (constantI S_ 1 1#1) reducesTo_S128x8x1_S128x8_d2 h_S_) (Host.gather gather_S128x8191_S128x8x1_S128x8_n_1_0_0_1_2_11 (res_main_v14 V0) (res_main_call3_v5 V0)) (broadcastInDim S128x8 ![] bcast_S_S128x8 (constant S_ .f32 0x7FC00000#32))

/-- The half-way coordinates taken. -/
theorem mids_at (b : Fin 128) (k : Fin 8) : (mids V0 (ix2 b k) : EReal) = mid (coor V0 b) (taken V0 b k).castSucc :=
  (guarded_read V0 (res_main_call1_v5 V0) (pos1_at V0) (res_main_v14 V0) _ b k).trans (v14_at V0 b _)

/-- The bits of the positions taken, as the run computes them. -/
def marks : IVec S128x8 1 :=
  select (Host.reduce IntOp.andi (andi (cmpi .sge (res_main_call4_v5 V0) (broadcastInDim S128x8x1 ![] bcast_S_S128x8x1 (constantI S_ 32 0#32))) (cmpi .sle (res_main_call4_v5 V0) (broadcastInDim S128x8x1 ![0, 1, 2] bcast_S1x1x1_S128x8x1_0_1_2 (broadcastInDim S1x1x1 ![2] bcast_S1_S1x1x1_2 (constantI S1 32 8190#32))))) (constantI S_ 1 1#1) reducesTo_S128x8x1_S128x8_d2 h_S_) (Host.gather gather_S128x8191_S128x8x1_S128x8_n_1_0_0_1_2_11 (res_main_v9 V0) (res_main_call4_v5 V0)) (broadcastInDim S128x8 ![] bcast_S_S128x8 (constantI S_ 1 1#1))

/-- The bits of the positions taken: whether there is a front. -/
theorem marks_at (b : Fin 128) (k : Fin 8) :
    marks V0 (ix2 b k) = if IsFront (dens V0 b) (taken V0 b k).castSucc then 1#1 else 0#1 :=
  (guarded_read V0 (res_main_call1_v5 V0) (pos1_at V0) (res_main_v9 V0) _ b k).trans (v9_at V0 b _)

/-- Counting the marked positions of a row. -/
theorem count_of (x : IVec S128x8191 1) (b : Fin 128) :
    Host.reduce IntOp.addi (extui 32 x natLt_1_32) (constantI S_ 32 0#32) reducesTo_S128x8191_S128_d1 h_S_ (ix1 b)
      = BitVec.ofNat 32 (Finset.univ.filter fun p : Fin 8191 => x (ix2 b p) = 1#1).card := by
  rw [← IndicatorCount.fold_addi_setWidth_eq_card]
  pointwise

/-- The fronts of a row are at positions that are not the last. -/
theorem card_fronts (d : Fin 8192 → EReal) :
    (Finset.univ.filter fun p : Fin 8191 => IsFront d p.castSucc).card = (Finset.univ.filter fun l => IsFront d l).card := by
  rw [← Finset.card_map Fin.castSuccEmb]
  congr 1
  ext l
  simp only [Finset.mem_map, Finset.mem_filter, Finset.mem_univ, true_and, Fin.coe_castSuccEmb]
  refine ⟨fun ⟨p, hp, e⟩ => e ▸ hp, fun h => ⟨⟨l.val, h.2⟩, h, rfl⟩⟩

/-- The second result: the number of fronts of each row. -/
theorem count_at (b : Fin 128) :
    Host.reduce IntOp.addi (extui 32 (res_main_v9 V0) natLt_1_32) (constantI S_ 32 0#32) reducesTo_S128x8191_S128_d1 h_S_ (ix1 b)
      = frontCount (dens V0 b) := by
  refine (count_of (res_main_v9 V0) b).trans ?_
  have e : ∀ p, (res_main_v9 V0 (ix2 b p) = 1#1) ↔ IsFront (dens V0 b) p.castSucc := fun p => by
    rw [v9_at]
    by_cases h : IsFront (dens V0 b) p.castSucc
    · rw [if_pos h]; exact ⟨fun _ => h, fun _ => rfl⟩
    · rw [if_neg h]; exact ⟨fun h' => absurd (show (0#1 : BitVec 1) = 1#1 from h') (by decide), fun h' => absurd h' h⟩
  unfold frontCount
  rw [← card_fronts]
  refine congrArg (fun S : Finset (Fin 8191) => BitVec.ofNat 32 S.card) ?_
  ext p
  simp only [Finset.mem_filter, Finset.mem_univ, true_and]
  exact e p

end Cert.Fronts.Ref

end
-- ==== Proof.MlpRef.lean ====
/- The reference's dense network read as the functions of MlpRow.lean. -/
module

public import proofs.«01_k».proof.Proof.MlpRow
public import proofs.«01_k».proof.Proof.Gen.ReferenceIdeal.Run

@[expose] public section

set_option maxRecDepth 16384

noncomputable section

namespace Cert.Fronts.Ref

open Idealize.ShloMosaic Idealize.ShloMosaic.TcCoe Idealize.SL.Sem
open Cert.ReferenceIdeal Cert.ReferenceIdeal.Gen Cert.ReferenceIdeal.Value

variable (V0 : Valuation τ sig (Elt Ideal))

/-- The reference's parameters. -/
def params : Params where
  Win := fun x j => V0 (Proc.devRef .tc main_arg1) (ix2 x j)
  bin := fun j => V0 (Proc.devRef .tc main_arg2) (ix1 j)
  gin := fun j => V0 (Proc.devRef .tc main_arg3) (ix1 j)
  bein := fun j => V0 (Proc.devRef .tc main_arg4) (ix1 j)
  g1 := fun j => V0 (Proc.devRef .tc main_arg5) (ix1 j)
  be1 := fun j => V0 (Proc.devRef .tc main_arg6) (ix1 j)
  W1a := fun x j => V0 (Proc.devRef .tc main_arg7) (ix2 x j)
  b1a := fun j => V0 (Proc.devRef .tc main_arg8) (ix1 j)
  W1b := fun x j => V0 (Proc.devRef .tc main_arg9) (ix2 x j)
  b1b := fun j => V0 (Proc.devRef .tc main_arg10) (ix1 j)
  g2 := fun j => V0 (Proc.devRef .tc main_arg11) (ix1 j)
  be2 := fun j => V0 (Proc.devRef .tc main_arg12) (ix1 j)
  W2a := fun x j => V0 (Proc.devRef .tc main_arg13) (ix2 x j)
  b2a := fun j => V0 (Proc.devRef .tc main_arg14) (ix1 j)
  W2b := fun x j => V0 (Proc.devRef .tc main_arg15) (ix2 x j)
  b2b := fun j => V0 (Proc.devRef .tc main_arg16) (ix1 j)
  g3 := fun j => V0 (Proc.devRef .tc main_arg17) (ix1 j)
  be3 := fun j => V0 (Proc.devRef .tc main_arg18) (ix1 j)
  W3a := fun x j => V0 (Proc.devRef .tc main_arg19) (ix2 x j)
  b3a := fun j => V0 (Proc.devRef .tc main_arg20) (ix1 j)
  W3b := fun x j => V0 (Proc.devRef .tc main_arg21) (ix2 x j)
  b3b := fun j => V0 (Proc.devRef .tc main_arg22) (ix1 j)
  gh := fun j => V0 (Proc.devRef .tc main_arg23) (ix1 j)
  beh := fun j => V0 (Proc.devRef .tc main_arg24) (ix1 j)
  Wh1 := fun x j => V0 (Proc.devRef .tc main_arg25) (ix2 x j)
  bh1 := fun j => V0 (Proc.devRef .tc main_arg26) (ix1 j)
  Wh2 := fun x j => V0 (Proc.devRef .tc main_arg27) (ix2 x j)
  bh2 := fun j => V0 (Proc.devRef .tc main_arg28) (ix1 j)

/-- The features' dense layer. -/
theorem v40_at (b : Fin 128) (k : Fin 8) (j : Fin 128) :
    (res_main_v40 V0 (ix3 b k j) : EReal) = dense (params V0).Win (params V0).bin
      (feat (res_main_v20 V0 (ix2 b k)) (res_main_v21 V0 (ix2 b k))) j := by
  pointwise [res_main_v40, res_main_v24]
  simp only [dense, params]
  congr 1

/-- The input layer's norm. -/
theorem v64_at (b : Fin 128) (k : Fin 8) (j : Fin 128) :
    (res_main_v64 V0 (ix3 b k j) : EReal) =
      lnRow (params V0).gin (params V0).bein (fun x => res_main_v40 V0 (ix3 b k x)) j := by
  pointwise [res_main_v64, res_main_v44, res_main_v46]
  rfl

/-- The input layer. -/
theorem v71_at (b : Fin 128) (k : Fin 8) (j : Fin 128) :
    (res_main_v71 V0 (ix3 b k j) : EReal) =
      stem (params V0).Win (params V0).bin (params V0).gin (params V0).bein
        (res_main_v20 V0 (ix2 b k)) (res_main_v21 V0 (ix2 b k)) j := by
  have h : (res_main_v71 V0 (ix3 b k j) : EReal) = gelu (res_main_v64 V0 (ix3 b k j)) := by
    rw [← gelu_erfc]; pointwise [res_main_v71]
  rw [h, v64_at, funext fun x => v40_at V0 b k x]; rfl

/-- The first block's inner layer. -/
theorem v99_at (b : Fin 128) (k : Fin 8) (j : Fin 256) :
    (res_main_v99 V0 (ix3 b k j) : EReal) = dense (params V0).W1a (params V0).b1a
      (lnRow (params V0).g1 (params V0).be1 (fun x => res_main_v71 V0 (ix3 b k x))) j := by
  pointwise [res_main_v99, res_main_v75, res_main_v77]
  rfl

/-- The first block. -/
theorem v111_at (b : Fin 128) (k : Fin 8) (j : Fin 128) :
    (res_main_v111 V0 (ix3 b k j) : EReal) = resBlock (params V0).g1 (params V0).be1 (params V0).W1a
      (params V0).b1a (params V0).W1b (params V0).b1b (fun x => res_main_v71 V0 (ix3 b k x)) j := by
  pointwise [res_main_v111]
  simp only [gelu_erfc, v99_at]
  rfl

/-- The second block's inner layer. -/
theorem v139_at (b : Fin 128) (k : Fin 8) (j : Fin 256) :
    (res_main_v139 V0 (ix3 b k j) : EReal) = dense (params V0).W2a (params V0).b2a
      (lnRow (params V0).g2 (params V0).be2 (fun x => res_main_v111 V0 (ix3 b k x))) j := by
  pointwise [res_main_v139, res_main_v115, res_main_v117]
  rfl

/-- The second block. -/
theorem v151_at (b : Fin 128) (k : Fin 8) (j : Fin 128) :
    (res_main_v151 V0 (ix3 b k j) : EReal) = resBlock (params V0).g2 (params V0).be2 (params V0).W2a
      (params V0).b2a (params V0).W2b (params V0).b2b (fun x => res_main_v111 V0 (ix3 b k x)) j := by
  pointwise [res_main_v151]
  simp only [gelu_erfc, v139_at]
  rfl

/-- The third block's inner layer. -/
theorem v179_at (b : Fin 128) (k : Fin 8) (j : Fin 256) :
    (res_main_v179 V0 (ix3 b k j) : EReal) = dense (params V0).W3a (params V0).b3a
      (lnRow (params V0).g3 (params V0).be3 (fun x => res_main_v151 V0 (ix3 b k x))) j := by
  pointwise [res_main_v179, res_main_v155, res_main_v157]
  rfl

/-- The third block. -/
theorem v191_at (b : Fin 128) (k : Fin 8) (j : Fin 128) :
    (res_main_v191 V0 (ix3 b k j) : EReal) = resBlock (params V0).g3 (params V0).be3 (params V0).W3a
      (params V0).b3a (params V0).W3b (params V0).b3b (fun x => res_main_v151 V0 (ix3 b k x)) j := by
  pointwise [res_main_v191]
  simp only [gelu_erfc, v179_at]
  rfl

/-- The head's inner layer. -/
theorem v219_at (b : Fin 128) (k : Fin 8) (j : Fin 64) :
    (res_main_v219 V0 (ix3 b k j) : EReal) = dense (params V0).Wh1 (params V0).bh1
      (lnRow (params V0).gh (params V0).beh (fun x => res_main_v191 V0 (ix3 b k x))) j := by
  pointwise [res_main_v219, res_main_v195, res_main_v197]
  rfl

/-- The row before the head. -/
theorem trunk_at (b : Fin 128) (k : Fin 8) : (fun x => (res_main_v191 V0 (ix3 b k x) : EReal)) =
    trunk (params V0) (res_main_v20 V0 (ix2 b k)) (res_main_v21 V0 (ix2 b k)) := by
  simp only [v191_at, v151_at, v111_at, v71_at]
  rfl

/-- The reference's head: what its result's first two channels hold, before they are transposed. -/
def head : FVec Ideal S128x8x2 .f32 :=
  addf (Host.dotGeneral (φ₂ := .f32) dot_S128x8x64_S64x2_S128x8x2_2_0_01_1_n_n none (mulf (mulf (broadcastInDim S128x8x64 ![] bcast_S_S128x8x64 (constant S_ .f32 0x3F000000#32)) (res_main_v219 V0)) (Host.erfc (mulf (Host.negf (res_main_v219 V0)) (broadcastInDim S128x8x64 ![] bcast_S_S128x8x64 (constant S_ .f32 0x3F3504F3#32))))) (V0 (Proc.devRef .tc main_arg27) : FVec Ideal S64x2 .f32)) (broadcastInDim S128x8x2 ![0, 1, 2] bcast_S1x1x2_S128x8x2_0_1_2 (broadcastInDim S1x1x2 ![2] bcast_S2_S1x1x2_2 (V0 (Proc.devRef .tc main_arg28) : FVec Ideal S2 .f32)))

/-- It is the network on the values beside the front. -/
theorem head_at (b : Fin 128) (k : Fin 8) (j : Fin 2) :
    (head V0 (ix3 b k j) : EReal) = net (params V0) (res_main_v20 V0 (ix2 b k)) (res_main_v21 V0 (ix2 b k)) j := by
  rw [net, ← trunk_at]
  pointwise [head]
  simp only [gelu_erfc, v219_at]
  rfl

end Cert.Fronts.Ref

end
-- ==== Proof.RefOut.lean ====
/- The reference's first result, read at row, channel and front. -/
module

public import proofs.«01_k».proof.Proof.FrontSpec
public import proofs.«01_k».proof.Proof.FrontRef
public import proofs.«01_k».proof.Proof.MlpRef

@[expose] public section

set_option maxRecDepth 16384

noncomputable section

namespace Cert.Fronts.Ref

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The first result as the run computes it: the network's outputs and the four rows of fronts, stacked. -/
def result : FVec Ideal S128x6x8 .f32 :=
  concatenate S128x6x8 1 [⟨S128x2x8, transpose S128x2x8 [0, 2, 1] (head V0) transposes_S128x8x2_S128x2x8_0_2_1⟩,
    ⟨S128x1x8, broadcastInDim S128x1x8 ![0, 2] bcast_S128x8_S128x1x8_0_2 (res_main_v20 V0 : FVec Ideal S128x8 .f32)⟩,
    ⟨S128x1x8, broadcastInDim S128x1x8 ![0, 2] bcast_S128x8_S128x1x8_0_2 (res_main_v21 V0 : FVec Ideal S128x8 .f32)⟩,
    ⟨S128x1x8, broadcastInDim S128x1x8 ![0, 2] bcast_S128x8_S128x1x8_0_2 (mids V0)⟩,
    ⟨S128x1x8, uitofp (F := Ideal) .f32 (broadcastInDim S128x1x8 ![0, 2] bcast_S128x8_S128x1x8_0_2 (marks V0))⟩]
    concatenates_S128x2x8_S128x1x8_S128x1x8_S128x1x8_S128x1x8_S128x6x8_d1

/-- The run leaves it. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v237) = result (launchContents m c) :=
  (θ_run defs _ _).mono (fun _ h c => (h c).1) (run (F := Ideal) m ρ)

/-- The word of a set bit, as a number. -/
theorem one_of_bit : (FloatOps.uitofp (F := Ideal) .f32 (1#1 : BitVec 1) : EReal) = 1 := by
  show (((1#1 : BitVec 1).toNat : ℝ) : EReal) = 1
  simp

/-- THE REFERENCE'S FIRST RESULT. -/
theorem result_at (h : EightFronts (dens V0) (coor V0)) (b : Fin 128) (ch : Fin 6) (k : Fin 8) :
    (result V0 (ix3 b ch k) : EReal) = outAt (params V0) (dens V0) (coor V0) b ch k := by
  have e := taken_eq V0 b (h b) k
  have e0 := head_at V0 b k
  have e20 := v20_at V0 b k
  have e21 := v21_at V0 b k
  have e4 := mids_at V0 b k
  have e5 := marks_at V0 b k
  rw [e] at e20 e21 e4 e5
  rw [if_pos (h.isFront b k)] at e5
  rw [e20, e21] at e0
  pointwise [result]
  fin_vals ch with hc
  all_goals simp only [hc, Nat.reduceSub, Nat.reduceLT, ↓reduceDIte]
  · obtain rfl : ch = 0 := Fin.ext hc
    exact e0 0
  · obtain rfl : ch = 1 := Fin.ext hc
    exact e0 1
  · obtain rfl : ch = 2 := Fin.ext hc
    exact e20
  · obtain rfl : ch = 3 := Fin.ext hc
    exact e21
  · obtain rfl : ch = 4 := Fin.ext hc
    exact e4
  · obtain rfl : ch = 5 := Fin.ext hc
    rw [e5]
    exact one_of_bit

/-- The run's second result, at row `b`: the number of fronts there. -/
theorem run_counts (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Fin 128),
      (r.2.mem ((c.tc : Thread nD τ).loc main_v16) (ix1 b) : BitVec 32) = frontCount (dens (launchContents m c) b) :=
  (θ_run defs _ _).mono (fun _ h c b => (congrFun (h c).2.1 (ix1 b)).trans (count_at _ b)) (run (F := Ideal) m ρ)

end Cert.Fronts.Ref

end
-- ==== Proof.Pre.lean ====
/- The precondition: every row has at least eight fronts at a coordinate below the top. -/
module

public import proofs.«01_k».proof.Pre_eight_fronts
public import proofs.«01_k».proof.Proof.FrontSpec
public import Idealize.ShloMosaic.Lib.Pointwise
public import Idealize.ShloMosaic.Lib.ReduceAll
public import Idealize.ShloMosaic.Lib.IndicatorCount

@[expose] public section

set_option maxRecDepth 16384

noncomputable section

namespace Cert.Fronts.Pre

open Idealize.ShloMosaic
open Cert.Pre_eight_fronts Cert.Pre_eight_fronts.Facts

variable [Cert.Pre_eight_fronts.Facts]

/-- The bits the precondition counts: a front at a coordinate below the top. -/
def bits (x : FVec Ideal S128x2x8192 .f32) : IVec S128x8191 1 :=
  let d : FVec Ideal S128x8192 .f32 := shapeCast S128x8192
    (extractStridedSlice S128x1x8192 ![0, 0, 0] x slices_S128x2x8192_S128x1x8192_0_0_0) shapeCasts_S128x1x8192_S128x8192
  let c : FVec Ideal S128x8192 .f32 := shapeCast S128x8192
    (extractStridedSlice S128x1x8192 ![0, 1, 0] x slices_S128x2x8192_S128x1x8192_0_1_0) shapeCasts_S128x1x8192_S128x8192
  andi (cmpf .ogt (Host.absf (subf (extractStridedSlice S128x8191 ![0, 0] d slices_S128x8192_S128x8191_0_0)
      (extractStridedSlice S128x8191 ![0, 1] d slices_S128x8192_S128x8191_0_1)))
      (broadcastInDim S128x8191 ![] bcast_S_S128x8191 (constant S_ .f32 0x358637BD#32)))
    (cmpf .olt (Host.divf (addf (extractStridedSlice S128x8191 ![0, 0] c slices_S128x8192_S128x8191_0_0)
        (extractStridedSlice S128x8191 ![0, 1] c slices_S128x8192_S128x8191_0_1))
        (broadcastInDim S128x8191 ![] bcast_S_S128x8191 (constant S_ .f32 0x40000000#32)))
      (broadcastInDim S128x8191 ![] bcast_S_S128x8191 (constant S_ .f32 0x7F800000#32)))

/-- The precondition counts them by row and compares each count with eight. -/
theorem fn_eq (x : FVec Ideal S128x2x8192 .f32) {a1} {a2} {a3} {a4} {a5} {a6} {a7} {a8} {a9} {a10} {a11} {a12} {a13} {a14} {a15} {a16} {a17} {a18} {a19} {a20} {a21} {a22} {a23} {a24} {a25} {a26} {a27} {a28} :
    fn (F := Ideal) x a1 a2 a3 a4 a5 a6 a7 a8 a9 a10 a11 a12 a13 a14 a15 a16 a17 a18 a19 a20 a21 a22 a23 a24 a25 a26 a27 a28 =
      Host.reduce IntOp.andi (cmpi .sge (Host.reduce IntOp.addi (extui 32 (bits x) natLt_1_32) (constantI S_ 32 0#32)
        reducesTo_S128x8191_S128_d1 h_S_) (broadcastInDim S128 ![] bcast_S_S128 (constantI S_ 32 8#32)))
        (constantI S_ 1 1#1) reducesTo_S128_S_d0 h_S_ := rfl

/-- The right neighbour, before the last position. -/
theorem nxt_castSucc (f : Fin 8192 → EReal) (p : Fin 8191) : nxt f p.castSucc = f p.succ := dif_pos p.isLt

/-- Two bits' conjunction is set when both conditions hold. -/
theorem and_bits (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- A lane but the last has a finite score exactly when the density jumps there and the midpoint is below `+∞`. -/
theorem score_lt (d c : Fin 8192 → EReal) (p : Fin 8191) : score d c p.castSucc < ⊤ ↔
    thr < max (d p.castSucc - d p.succ) (-(d p.castSucc - d p.succ)) ∧
      Ideal.div (c p.castSucc + c p.succ) (Ideal.ofBits .f32 1073741824#32) < (⊤ : EReal) := by
  have hm : mid c p.castSucc = Ideal.div (c p.castSucc + c p.succ) (Ideal.ofBits .f32 1073741824#32) := by
    unfold mid; rw [half_eq, nxt_castSucc]
  have hf : IsFront d p.castSucc ↔ thr < max (d p.castSucc - d p.succ) (-(d p.castSucc - d p.succ)) := by
    unfold IsFront; rw [nxt_castSucc]; exact ⟨fun e => e.1, fun e => ⟨e, p.isLt⟩⟩
  rw [← hm, ← hf]
  unfold score
  by_cases h : IsFront d p.castSucc
  · rw [if_pos h]; exact ⟨fun e => ⟨h, e⟩, fun e => e.2⟩
  · rw [if_neg h]; exact ⟨fun e => absurd e (lt_irrefl _), fun e => absurd e.1 h⟩

/-- Its bit at row `b` and position `p` is that of a score below the top. -/
theorem bits_at (x : FVec Ideal S128x2x8192 .f32) (b : Fin 128) (p : Fin 8191) :
    bits x (ix2 b p) = 1#1 ↔ score (fun l => x (ix3 b 0 l)) (fun l => x (ix3 b 1 l)) p.castSucc < ⊤ := by
  pointwise [bits]
  rw [show (⟨1 + p.val, by omega⟩ : Fin 8192) = p.succ from Fin.ext (Nat.add_comm _ _), and_bits, inf_eq]
  exact (score_lt (fun l => x (ix3 b 0 l)) (fun l => x (ix3 b 1 l)) p).symm

/-- A row's count is the number of its set bits. -/
theorem count_of (x : IVec S128x8191 1) (b : Fin 128) :
    Host.reduce IntOp.addi (extui 32 x natLt_1_32) (constantI S_ 32 0#32) reducesTo_S128x8191_S128_d1 h_S_ (ix1 b)
      = BitVec.ofNat 32 (Finset.univ.filter fun p : Fin 8191 => x (ix2 b p) = 1#1).card := by
  rw [← IndicatorCount.fold_addi_setWidth_eq_card]
  pointwise

/-- THE PRECONDITION: when it holds, every row has eight fronts at a coordinate below the top. -/
theorem eightFronts (x : FVec Ideal S128x2x8192 .f32) {a1} {a2} {a3} {a4} {a5} {a6} {a7} {a8} {a9} {a10} {a11} {a12} {a13} {a14} {a15} {a16} {a17} {a18} {a19} {a20} {a21} {a22} {a23} {a24} {a25} {a26} {a27} {a28}
    (h : fn (F := Ideal) x a1 a2 a3 a4 a5 a6 a7 a8 a9 a10 a11 a12 a13 a14 a15 a16 a17 a18 a19 a20 a21 a22 a23 a24 a25 a26 a27 a28 = fun _ => 1#1) :
    EightFronts (fun b l => x (ix3 b 0 l)) (fun b l => x (ix3 b 1 l)) := by
  intro b
  rw [fn_eq] at h
  have h1 := Host.reduce_andi_all _ _ _ _ ix0 (congrFun h ix0) (ix1 b)
  have h2 : BitVec.ofBool ((8#32 : BitVec 32).sle (BitVec.ofNat 32 (Finset.univ.filter fun p : Fin 8191 => bits x (ix2 b p) = 1#1).card)) = 1#1 := by
    rw [← count_of]
    exact h1
  have hle : (Finset.univ.filter fun p : Fin 8191 => bits x (ix2 b p) = 1#1).card ≤ 8191 :=
    (Finset.card_filter_le _ _).trans (by simp)
  have h3 : 8 ≤ (Finset.univ.filter fun p : Fin 8191 => bits x (ix2 b p) = 1#1).card := by
    generalize (Finset.univ.filter fun p : Fin 8191 => bits x (ix2 b p) = 1#1).card = n at h2 hle
    by_contra hn
    have : (8#32 : BitVec 32).sle (BitVec.ofNat 32 n) = false := by
      have e : (BitVec.ofNat 32 n).toInt = n := by
        rw [BitVec.toInt_eq_toNat_of_lt (by rw [BitVec.toNat_ofNat]; omega), BitVec.toNat_ofNat]
        omega
      rw [BitVec.sle_eq_decide, e]
      exact decide_eq_false (by show ¬ (8 : Int) ≤ n; omega)
    rw [this] at h2
    exact absurd h2 (by decide)
  refine h3.trans ?_
  rw [← Finset.card_map Fin.castSuccEmb]
  refine Finset.card_le_card fun l hl => ?_
  obtain ⟨p, hp, rfl⟩ := Finset.mem_map.mp hl
  exact Finset.mem_filter.mpr ⟨Finset.mem_univ _, (bits_at x b p).mp (Finset.mem_filter.mp hp).2⟩

end Cert.Fronts.Pre

end
-- ==== Proof.Algebraic.lean ====
/- The value claim: from memories that agree on the arguments, where every row has eight fronts, both programs end
   with the same two results. -/
module

public import proofs.«01_k».proof.Defs
public import proofs.«01_k».proof.Proof.Gen.KernelIdeal
public import proofs.«01_k».proof.Proof.Gen.ReferenceIdeal
public import proofs.«01_k».proof.Proof.Gen.Pre_eight_fronts
public import proofs.«01_k».proof.Proof.KernelRun
public import proofs.«01_k».proof.Proof.RefOut
public import proofs.«01_k».proof.Proof.Pre

@[expose] public section

set_option maxRecDepth 16384

noncomputable section

namespace Cert.Fronts.Ref

open Idealize.ShloMosaic Idealize.ShloMosaic.TcCoe Idealize.SL.Sem Idealize.ShloMosaic.StableHlo
open Cert.ReferenceIdeal Cert.ReferenceIdeal.Gen Cert.ReferenceIdeal.Value

/-- The reference's densities are channel 0 of its first argument. -/
theorem dens_arg (V0 : Valuation τ sig (Elt Ideal)) (b : Fin 128) (l : Fin 8192) :
    dens V0 b l = (V0 (Proc.devRef .tc main_arg0) (ix3 b 0 l) : EReal) := by
  show (res_main_v1 V0 (ix2 b l) : EReal) = _
  pointwise [res_main_v1]

/-- The reference's coordinates are channel 1 of its first argument. -/
theorem coor_arg (V0 : Valuation τ sig (Elt Ideal)) (b : Fin 128) (l : Fin 8192) :
    coor V0 b l = (V0 (Proc.devRef .tc main_arg0) (ix3 b 1 l) : EReal) := by
  show (res_main_v3 V0 (ix2 b l) : EReal) = _
  pointwise [res_main_v3]

/-- The reference's second result, as its run computes it. -/
def counts (V0 : Valuation τ sig (Elt Ideal)) : IVec S128 32 :=
  Host.reduce IntOp.addi (extui 32 (res_main_v9 V0) natLt_1_32) (constantI S_ 32 0#32) reducesTo_S128x8191_S128_d1 h_S_

end Cert.Fronts.Ref

namespace Cert.Fronts

open Idealize.ShloMosaic Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on one device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)

variable {m m'} {c : Dev Cert.KernelIdeal.nD}

/-- Then both have the same parameters. -/
theorem params_agree (h : Agree m m' c) : Ref.params (launchContents m' c) = Ker.argParams m c := by
  obtain ⟨e0, e1, e2, e3, e4, e5, e6, e7, e8, e9, e10, e11, e12, e13, e14, e15, e16, e17, e18, e19, e20, e21, e22, e23, e24, e25, e26, e27, e28⟩ := h
  have p := congrArg Params.mk (funext fun x => funext fun j => congrFun e1 (ix2 x j))
  replace p := congr p (funext fun j => congrFun e2 (ix1 j))
  replace p := congr p (funext fun j => congrFun e3 (ix1 j))
  replace p := congr p (funext fun j => congrFun e4 (ix1 j))
  replace p := congr p (funext fun j => congrFun e5 (ix1 j))
  replace p := congr p (funext fun j => congrFun e6 (ix1 j))
  replace p := congr p (funext fun x => funext fun j => congrFun e7 (ix2 x j))
  replace p := congr p (funext fun j => congrFun e8 (ix1 j))
  replace p := congr p (funext fun x => funext fun j => congrFun e9 (ix2 x j))
  replace p := congr p (funext fun j => congrFun e10 (ix1 j))
  replace p := congr p (funext fun j => congrFun e11 (ix1 j))
  replace p := congr p (funext fun j => congrFun e12 (ix1 j))
  replace p := congr p (funext fun x => funext fun j => congrFun e13 (ix2 x j))
  replace p := congr p (funext fun j => congrFun e14 (ix1 j))
  replace p := congr p (funext fun x => funext fun j => congrFun e15 (ix2 x j))
  replace p := congr p (funext fun j => congrFun e16 (ix1 j))
  replace p := congr p (funext fun j => congrFun e17 (ix1 j))
  replace p := congr p (funext fun j => congrFun e18 (ix1 j))
  replace p := congr p (funext fun x => funext fun j => congrFun e19 (ix2 x j))
  replace p := congr p (funext fun j => congrFun e20 (ix1 j))
  replace p := congr p (funext fun x => funext fun j => congrFun e21 (ix2 x j))
  replace p := congr p (funext fun j => congrFun e22 (ix1 j))
  replace p := congr p (funext fun j => congrFun e23 (ix1 j))
  replace p := congr p (funext fun j => congrFun e24 (ix1 j))
  replace p := congr p (funext fun x => funext fun j => congrFun e25 (ix2 x j))
  replace p := congr p (funext fun j => congrFun e26 (ix1 j))
  replace p := congr p (funext fun x => funext fun j => congrFun e27 (ix2 x j))
  replace p := congr p (funext fun j => congrFun e28 (ix1 j))
  exact p

/-- The same densities. -/
theorem dens_agree (h : Agree m m' c) : Ref.dens (launchContents m' c) = Ker.dens m c :=
  funext fun b => funext fun l => (Ref.dens_arg _ b l).trans (congrFun h.1 (ix3 b 0 l))

/-- The same coordinates. -/
theorem coor_agree (h : Agree m m' c) : Ref.coor (launchContents m' c) = Ker.coor m c :=
  funext fun b => funext fun l => (Ref.coor_arg _ b l).trans (congrFun h.1 (ix3 b 1 l))

/-- The first results agree. -/
theorem result_agree (ρ : Dev Cert.KernelIdeal.nD → PrngReg) (h : Agree m m' c)
    (h8 : EightFronts (Ker.dens m c) (Ker.coor m c)) :
    Ref.result (launchContents m' c) = Cert.KernelIdeal.Gen.W13 m ρ c (Proc.devRef .tc Cert.KernelIdeal.main_v40) := by
  funext i
  rw [ValueIdx.eq_ix3 i]
  have h8' : EightFronts (Ref.dens (launchContents m' c)) (Ref.coor (launchContents m' c)) := by
    rw [dens_agree h, coor_agree h]; exact h8
  have e := Ref.result_at (launchContents m' c) h8' (i 0) (i 1) (i 2)
  rw [params_agree h, dens_agree h, coor_agree h] at e
  exact e.trans (Ker.result_at m ρ c h8 (i 0) (i 1) (i 2)).symm

/-- The second results agree. -/
theorem counts_agree (ρ : Dev Cert.KernelIdeal.nD → PrngReg) (h : Agree m m' c) :
    Ref.counts (launchContents m' c) = Cert.KernelIdeal.Gen.W13 m ρ c (Proc.devRef .tc Cert.KernelIdeal.main_v6) := by
  funext i
  rw [ValueIdx.eq_ix1 i]
  have e : (Ref.counts (launchContents m' c) (ix1 (i 0)) : BitVec 32) = frontCount (Ref.dens (launchContents m' c) (i 0)) :=
    Ref.count_at (launchContents m' c) (i 0)
  rw [dens_agree h] at e
  exact e.trans (Ker.counts_at m ρ c (i 0)).symm

/-- THE VALUE CLAIM. -/
theorem algebraic : Cert.algebraic_KernelIdeal_ReferenceIdeal_pre_eight_fronts := by
  intro m g m' g' hpre hagree
  have h8 : ∀ c : Dev Cert.KernelIdeal.nD, EightFronts (Ker.dens m c) (Ker.coor m c) :=
    fun c => Pre.eightFronts _ (hpre c)
  refine ⟨fun c => Cert.KernelIdeal.Gen.W13 m g c (Proc.devRef .tc Cert.KernelIdeal.main_v40),
    fun c => Cert.KernelIdeal.Gen.W13 m g c (Proc.devRef .tc Cert.KernelIdeal.main_v6), ?_, ?_⟩
  · exact (θ_run Cert.KernelIdeal.defs _ _).mono (fun r h c =>
      ⟨h.1 c _ (Cert.KernelIdeal.Gen.mem_uc Cert.KernelIdeal.main_v40 (by decide)),
       h.1 c _ (Cert.KernelIdeal.Gen.mem_uc Cert.KernelIdeal.main_v6 (by decide)),
       (h.1 c _ (Cert.KernelIdeal.Gen.mem_uc Cert.KernelIdeal.main_arg0 (by decide))).trans (Cert.KernelIdeal.Gen.W13_main_arg0 m g c),
       (h.1 c _ (Cert.KernelIdeal.Gen.mem_uc Cert.KernelIdeal.main_arg1 (by decide))).trans (Cert.KernelIdeal.Gen.W13_main_arg1 m g c),
       (h.1 c _ (Cert.KernelIdeal.Gen.mem_uc Cert.KernelIdeal.main_arg2 (by decide))).trans (Cert.KernelIdeal.Gen.W13_main_arg2 m g c),
       (h.1 c _ (Cert.KernelIdeal.Gen.mem_uc Cert.KernelIdeal.main_arg3 (by decide))).trans (Cert.KernelIdeal.Gen.W13_main_arg3 m g c),
       (h.1 c _ (Cert.KernelIdeal.Gen.mem_uc Cert.KernelIdeal.main_arg4 (by decide))).trans (Cert.KernelIdeal.Gen.W13_main_arg4 m g c),
       (h.1 c _ (Cert.KernelIdeal.Gen.mem_uc Cert.KernelIdeal.main_arg5 (by decide))).trans (Cert.KernelIdeal.Gen.W13_main_arg5 m g c),
       (h.1 c _ (Cert.KernelIdeal.Gen.mem_uc Cert.KernelIdeal.main_arg6 (by decide))).trans (Cert.KernelIdeal.Gen.W13_main_arg6 m g c),
       (h.1 c _ (Cert.KernelIdeal.Gen.mem_uc Cert.KernelIdeal.main_arg7 (by decide))).trans (Cert.KernelIdeal.Gen.W13_main_arg7 m g c),
       (h.1 c _ (Cert.KernelIdeal.Gen.mem_uc Cert.KernelIdeal.main_arg8 (by decide))).trans (Cert.KernelIdeal.Gen.W13_main_arg8 m g c),
       (h.1 c _ (Cert.KernelIdeal.Gen.mem_uc Cert.KernelIdeal.main_arg9 (by decide))).trans (Cert.KernelIdeal.Gen.W13_main_arg9 m g c),
       (h.1 c _ (Cert.KernelIdeal.Gen.mem_uc Cert.KernelIdeal.main_arg10 (by decide))).trans (Cert.KernelIdeal.Gen.W13_main_arg10 m g c),
       (h.1 c _ (Cert.KernelIdeal.Gen.mem_uc Cert.KernelIdeal.main_arg11 (by decide))).trans (Cert.KernelIdeal.Gen.W13_main_arg11 m g c),
       (h.1 c _ (Cert.KernelIdeal.Gen.mem_uc Cert.KernelIdeal.main_arg12 (by decide))).trans (Cert.KernelIdeal.Gen.W13_main_arg12 m g c),
       (h.1 c _ (Cert.KernelIdeal.Gen.mem_uc Cert.KernelIdeal.main_arg13 (by decide))).trans (Cert.KernelIdeal.Gen.W13_main_arg13 m g c),
       (h.1 c _ (Cert.KernelIdeal.Gen.mem_uc Cert.KernelIdeal.main_arg14 (by decide))).trans (Cert.KernelIdeal.Gen.W13_main_arg14 m g c),
       (h.1 c _ (Cert.KernelIdeal.Gen.mem_uc Cert.KernelIdeal.main_arg15 (by decide))).trans (Cert.KernelIdeal.Gen.W13_main_arg15 m g c),
       (h.1 c _ (Cert.KernelIdeal.Gen.mem_uc Cert.KernelIdeal.main_arg16 (by decide))).trans (Cert.KernelIdeal.Gen.W13_main_arg16 m g c),
       (h.1 c _ (Cert.KernelIdeal.Gen.mem_uc Cert.KernelIdeal.main_arg17 (by decide))).trans (Cert.KernelIdeal.Gen.W13_main_arg17 m g c),
       (h.1 c _ (Cert.KernelIdeal.Gen.mem_uc Cert.KernelIdeal.main_arg18 (by decide))).trans (Cert.KernelIdeal.Gen.W13_main_arg18 m g c),
       (h.1 c _ (Cert.KernelIdeal.Gen.mem_uc Cert.KernelIdeal.main_arg19 (by decide))).trans (Cert.KernelIdeal.Gen.W13_main_arg19 m g c),
       (h.1 c _ (Cert.KernelIdeal.Gen.mem_uc Cert.KernelIdeal.main_arg20 (by decide))).trans (Cert.KernelIdeal.Gen.W13_main_arg20 m g c),
       (h.1 c _ (Cert.KernelIdeal.Gen.mem_uc Cert.KernelIdeal.main_arg21 (by decide))).trans (Cert.KernelIdeal.Gen.W13_main_arg21 m g c),
       (h.1 c _ (Cert.KernelIdeal.Gen.mem_uc Cert.KernelIdeal.main_arg22 (by decide))).trans (Cert.KernelIdeal.Gen.W13_main_arg22 m g c),
       (h.1 c _ (Cert.KernelIdeal.Gen.mem_uc Cert.KernelIdeal.main_arg23 (by decide))).trans (Cert.KernelIdeal.Gen.W13_main_arg23 m g c),
       (h.1 c _ (Cert.KernelIdeal.Gen.mem_uc Cert.KernelIdeal.main_arg24 (by decide))).trans (Cert.KernelIdeal.Gen.W13_main_arg24 m g c),
       (h.1 c _ (Cert.KernelIdeal.Gen.mem_uc Cert.KernelIdeal.main_arg25 (by decide))).trans (Cert.KernelIdeal.Gen.W13_main_arg25 m g c),
       (h.1 c _ (Cert.KernelIdeal.Gen.mem_uc Cert.KernelIdeal.main_arg26 (by decide))).trans (Cert.KernelIdeal.Gen.W13_main_arg26 m g c),
       (h.1 c _ (Cert.KernelIdeal.Gen.mem_uc Cert.KernelIdeal.main_arg27 (by decide))).trans (Cert.KernelIdeal.Gen.W13_main_arg27 m g c),
       (h.1 c _ (Cert.KernelIdeal.Gen.mem_uc Cert.KernelIdeal.main_arg28 (by decide))).trans (Cert.KernelIdeal.Gen.W13_main_arg28 m g c)⟩) (Cert.KernelIdeal.Gen.ends m g)
  · exact (θ_run Cert.ReferenceIdeal.defs _ _).mono (fun r h c =>
      ⟨(h c).1.trans (result_agree g (hagree c) (h8 c)), (h c).2.1.trans (counts_agree g (hagree c)), (h c).2.2⟩)
      (Cert.ReferenceIdeal.Value.run (F := Ideal) m' g')

end Cert.Fronts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_eight_fronts
public import proofs.«01_k».proof.Proof.Frames
public import proofs.«01_k».proof.Proof.Algebraic

@[expose] public section

noncomputable section

namespace Cert.Proof

/-- The claim. Where a frame is stated under the precondition too, it holds without it. -/
theorem claim : Cert.Claim := ⟨Cert.Kernel.Gen.facts, Cert.KernelIdeal.Gen.facts, Cert.ReferenceIdeal.Gen.facts,
  Cert.Pre_eight_fronts.Gen.facts,
  Cert.Fronts.frame_kernel, Cert.Fronts.frame_kernelIdeal, fun m ρ _ => Cert.Fronts.frame_kernelIdeal m ρ trivial,
  Cert.Fronts.frame_referenceIdeal, fun m ρ _ => Cert.Fronts.frame_referenceIdeal m ρ trivial,
  Cert.Fronts.preserves, Cert.Fronts.algebraic⟩

end Cert.Proof

end
